-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.UnclippedIdeal.nD).tc : Thread Cert.UnclippedIdeal.nD Cert.UnclippedIdeal.τ).loc Cert.UnclippedIdeal.main_arg1))) →
    ∃ (v0 : Buf (Elt Ideal) (((0 : Dev Cert.UnclippedIdeal.nD).tc : Thread Cert.UnclippedIdeal.nD Cert.UnclippedIdeal.τ).loc Cert.UnclippedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v7) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_UnclippedIdeal (hUnclippedIdeal := hUnclippedIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_UnclippedIdeal (hKernelIdeal := hKernelIdeal) (hUnclippedIdeal := hUnclippedIdeal)
-- ==== Pre_bounded_KernelIdeal.lean ====
abbrev S4096x1024 : Shape := ⟨2, ![4096, 1024]⟩
abbrev S1024x8192 : Shape := ⟨2, ![1024, 8192]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x1024_S1024x8192_S4096x8192_1_0_0_1_n_n_wf : DotDims.WF S4096x1024 S1024x8192 S4096x8192 [1] [0] [0] [1] [] []

variable [Facts]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def fn {F : FTy → Type} [FloatOps F] (main_arg0 : FVec F S4096x1024 .bf16) (main_arg1 : FVec F S1024x8192 .bf16) : IVec S4096x8192 1 :=
  let main_v0 : FVec F S4096x8192 .f32 := (fun l r => Host.dotGeneral dot_S4096x1024_S1024x8192_S4096x8192_1_0_0_1_n_n none l r) main_arg0 main_arg1
  let main_v1 : FVec F S4096x8192 .f32 := Host.absf main_v0
  let main_cst : FVec F S_ .f32 := constant S_ .f32 0x41700000#32
  let main_v2 : FVec F S4096x8192 .f32 := broadcastInDim S4096x8192 ![] bcast_S_S4096x8192 main_cst
  let main_v3 : IVec S4096x8192 1 := cmpf .ole main_v1 main_v2
  main_v3
-- ==== Pre_bounded_ReferenceIdeal.lean ====
abbrev S4096x4096 : Shape := ⟨2, ![4096, 4096]⟩
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .bf16) (main_arg1 : FVec F S4096x8192 .bf16) : IVec S4096x8192 1 :=
  let main_v0 : FVec F S4096x8192 .f32 := (fun l r => Host.dotGeneral dot_S4096x4096_S4096x8192_S4096x8192_1_0_0_1_n_n none l r) main_arg0 main_arg1
  let main_v1 : FVec F S4096x8192 .f32 := Host.absf main_v0
  let main_cst : FVec F S_ .f32 := constant S_ .f32 0x41700000#32
  let main_v2 : FVec F S4096x8192 .f32 := broadcastInDim S4096x8192 ![] bcast_S_S4096x8192 main_cst
  let main_v3 : IVec S4096x8192 1 := cmpf .ole main_v1 main_v2
  main_v3
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S1024x2048 : Shape := ⟨2, ![1024, 2048]⟩
abbrev S1024x1024 : Shape := ⟨2, ![1024, 1024]⟩
abbrev S256x2048 : Shape := ⟨2, ![256, 2048]⟩
abbrev S_ : Shape := ⟨0, ![]⟩

abbrev nBuf : Space → Nat
  | .hbm => 3
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x8192, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 7 11 bufScoped semScoped dmaSemScoped tileCredit tileCredit_eq_zero tileCredit_pos).withBarriers [(0, 6)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev barrier0 : Sem sig := 6

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_11 : BitVec 32 := 1#32
  let v13 : BitVec 32 := Scalar.muli v5 c1_i32_11
  let v14 : BitVec 32 := Scalar.addi c0_i32_12 v13
  v14.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_14 : BitVec 32 := 1#32
  let v15 : BitVec 32 := Scalar.muli v5 c1_i32_14
  let v16 : BitVec 32 := Scalar.addi c0_i32_15 v15
  v16.toNat
def k0_dev5 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_17 : BitVec 32 := 1#32
  let v17 : BitVec 32 := Scalar.muli v7 c1_i32_17
  let v18 : BitVec 32 := Scalar.addi c0_i32_18 v17
  v18.toNat
def k0_dev6 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_20 : BitVec 32 := 1#32
  let v19 : BitVec 32 := Scalar.muli v7 c1_i32_20
  let v20 : BitVec 32 := Scalar.addi c0_i32_21 v19
  v20.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v21 : BitVec 32 := Scalar.muli v2 c1024_i32
  let c0_i32_22 : BitVec 32 := 0#32
  ![v21.toNat, 0]
def k0_dev7 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_68 : BitVec 32 := 1#32
  let v63 : BitVec 32 := Scalar.muli v7 c1_i32_68
  let v64 : BitVec 32 := Scalar.addi c0_i32_69 v63
  v64.toNat
def k0_dev8 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_76 : BitVec 32 := 1#32
  let v67 : BitVec 32 := Scalar.muli v7 c1_i32_76
  let v68 : BitVec 32 := Scalar.addi c0_i32_77 v67
  v68.toNat
def k0_dev9 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_84 : BitVec 32 := 1#32
  let v71 : BitVec 32 := Scalar.muli v5 c1_i32_84
  let v72 : BitVec 32 := Scalar.addi c0_i32_85 v71
  v72.toNat
def k0_dev10 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_92 : BitVec 32 := 1#32
  let v75 : BitVec 32 := Scalar.muli v5 c1_i32_92
  let v76 : BitVec 32 := Scalar.addi c0_i32_93 v75
  v76.toNat
def k0_off2 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_98 : BitVec 32 := 4#32
  let v79 : BitVec 32 := Scalar.addi v2 c4_i32_98
  let v80 : BitVec 32 := Scalar.addi v79 c_m1_i32
  let c4_i32_99 : BitVec 32 := 4#32
  let v81 : BitVec 32 := Scalar.remsi v80 c4_i32_99
  let c1024_i32_100 : BitVec 32 := 1024#32
  let v82 : BitVec 32 := Scalar.muli v81 c1024_i32_100
  let c0_i32_101 : BitVec 32 := 0#32
  ![v82.toNat, 0]
def k0_off2_at (r : Fin 6) : BitVec 32 :=
  if r.val < 3 then
    if r.val < 1 then
      4294967295#32
    else
      if r.val < 2 then
        1#32
      else
        4294967294#32
  else
    if r.val < 4 then
      2#32
    else
      if r.val < 5 then
        4294967293#32
      else
        3#32
def k0_dev11 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_171 : BitVec 32 := 1#32
  let v139 : BitVec 32 := Scalar.muli v5 c1_i32_171
  let v140 : BitVec 32 := Scalar.addi c0_i32_172 v139
  v140.toNat
def k0_dev12 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_191 : BitVec 32 := 1#32
  let v153 : BitVec 32 := Scalar.muli v7 c1_i32_191
  let v154 : BitVec 32 := Scalar.addi c0_i32_192 v153
  v154.toNat
def k0_dev13 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_211 : BitVec 32 := 1#32
  let v167 : BitVec 32 := Scalar.muli v5 c1_i32_211
  let v168 : BitVec 32 := Scalar.addi c0_i32_212 v167
  v168.toNat
def k0_dev14 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_231 : BitVec 32 := 1#32
  let v181 : BitVec 32 := Scalar.muli v7 c1_i32_231
  let v182 : BitVec 32 := Scalar.addi c0_i32_232 v181
  v182.toNat
def k0_dev15 (d0 : Dev nD) : Nat :=
  let c0_i32_236 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_235 : BitVec 32 := 1#32
  let v183 : BitVec 32 := Scalar.muli v7 c1_i32_235
  let v184 : BitVec 32 := Scalar.addi c0_i32_236 v183
  v184.toNat
def k0_dev16 (d0 : Dev nD) : Nat :=
  let c0_i32_244 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_243 : BitVec 32 := 1#32
  let v187 : BitVec 32 := Scalar.muli v7 c1_i32_243
  let v188 : BitVec 32 := Scalar.addi c0_i32_244 v187
  v188.toNat
def k0_dev17 (d0 : Dev nD) : Nat :=
  let c0_i32_252 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_251 : BitVec 32 := 1#32
  let v191 : BitVec 32 := Scalar.muli v5 c1_i32_251
  let v192 : BitVec 32 := Scalar.addi c0_i32_252 v191
  v192.toNat
def k0_dev18 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_259 : BitVec 32 := 1#32
  let v195 : BitVec 32 := Scalar.muli v5 c1_i32_259
  let v196 : BitVec 32 := Scalar.addi c0_i32_260 v195
  v196.toNat
def k0_dev19 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_338 : BitVec 32 := 1#32
  let v259 : BitVec 32 := Scalar.muli v5 c1_i32_338
  let v260 : BitVec 32 := Scalar.addi c0_i32_339 v259
  v260.toNat
def k0_dev20 (d0 : Dev nD) : Nat :=
  let c0_i32_359 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_358 : BitVec 32 := 1#32
  let v273 : BitVec 32 := Scalar.muli v7 c1_i32_358
  let v274 : BitVec 32 := Scalar.addi c0_i32_359 v273
  v274.toNat
def k0_dev21 (d0 : Dev nD) : Nat :=
  let c0_i32_379 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_378 : BitVec 32 := 1#32
  let v287 : BitVec 32 := Scalar.muli v5 c1_i32_378
  let v288 : BitVec 32 := Scalar.addi c0_i32_379 v287
  v288.toNat
def k0_dev22 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_398 : BitVec 32 := 1#32
  let v301 : BitVec 32 := Scalar.muli v7 c1_i32_398
  let v302 : BitVec 32 := Scalar.addi c0_i32_399 v301
  v302.toNat
def k0_dev23 (d0 : Dev nD) : Nat :=
  let c0_i32_403 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_402 : BitVec 32 := 1#32
  let v303 : BitVec 32 := Scalar.muli v7 c1_i32_402
  let v304 : BitVec 32 := Scalar.addi c0_i32_403 v303
  v304.toNat
def k0_dev24 (d0 : Dev nD) : Nat :=
  let c0_i32_411 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_410 : BitVec 32 := 1#32
  let v307 : BitVec 32 := Scalar.muli v7 c1_i32_410
  let v308 : BitVec 32 := Scalar.addi c0_i32_411 v307
  v308.toNat
def k0_dev25 (d0 : Dev nD) : Nat :=
  let c0_i32_419 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_418 : BitVec 32 := 1#32
  let v311 : BitVec 32 := Scalar.muli v5 c1_i32_418
  let v312 : BitVec 32 := Scalar.addi c0_i32_419 v311
  v312.toNat
def k0_dev26 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_426 : BitVec 32 := 1#32
  let v315 : BitVec 32 := Scalar.muli v5 c1_i32_426
  let v316 : BitVec 32 := Scalar.addi c0_i32_427 v315
  v316.toNat
def k0_dev27 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_504 : BitVec 32 := 1#32
  let v379 : BitVec 32 := Scalar.muli v5 c1_i32_504
  let v380 : BitVec 32 := Scalar.addi c0_i32_505 v379
  v380.toNat
def k0_dev28 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_524 : BitVec 32 := 1#32
  let v393 : BitVec 32 := Scalar.muli v7 c1_i32_524
  let v394 : BitVec 32 := Scalar.addi c0_i32_525 v393
  v394.toNat
def k0_dev29 (d0 : Dev nD) : Nat :=
  let c0_i32_545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_544 : BitVec 32 := 1#32
  let v407 : BitVec 32 := Scalar.muli v5 c1_i32_544
  let v408 : BitVec 32 := Scalar.addi c0_i32_545 v407
  v408.toNat
def k0_dev30 (d0 : Dev nD) : Nat :=
  let c0_i32_565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_564 : BitVec 32 := 1#32
  let v421 : BitVec 32 := Scalar.muli v7 c1_i32_564
  let v422 : BitVec 32 := Scalar.addi c0_i32_565 v421
  v422.toNat
def k0_dev31 (d0 : Dev nD) : Nat :=
  let c0_i32_568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_567 : BitVec 32 := 1#32
  let v423 : BitVec 32 := Scalar.muli v5 c1_i32_567
  let v424 : BitVec 32 := Scalar.addi c0_i32_568 v423
  v424.toNat
def k0_dev32 (d0 : Dev nD) : Nat :=
  let c0_i32_571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_570 : BitVec 32 := 1#32
  let v425 : BitVec 32 := Scalar.muli v7 c1_i32_570
  let v426 : BitVec 32 := Scalar.addi c0_i32_571 v425
  v426.toNat
def k0_dev33 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_576 : BitVec 32 := 1#32
  let v427 : BitVec 32 := Scalar.muli v7 c1_i32_576
  let v428 : BitVec 32 := Scalar.addi c0_i32_577 v427
  v428.toNat
def k0_dev34 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_582 : BitVec 32 := 1#32
  let v429 : BitVec 32 := Scalar.muli v5 c1_i32_582
  let v430 : BitVec 32 := Scalar.addi c0_i32_583 v429
  v430.toNat
def k0_off3 (d0 : Dev nD) (c_m3_i32_585 : BitVec 32) (c0_i32_595 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_584 : BitVec 32 := 4#32
  let v431 : BitVec 32 := Scalar.addi v2 c4_i32_584
  let v432 : BitVec 32 := Scalar.addi v431 c_m3_i32_585
  let c4_i32_586 : BitVec 32 := 4#32
  let v433 : BitVec 32 := Scalar.remsi v432 c4_i32_586
  let c1024_i32_594 : BitVec 32 := 1024#32
  let v447 : BitVec 32 := Scalar.muli v433 c1024_i32_594
  let v448 : BitVec 32 := Scalar.addi v447 c0_i32_595
  let c0_i32_596 : BitVec 32 := 0#32
  ![v448.toNat, 0]
def k0_off3_at (r : Fin 16) : BitVec 32 × BitVec 32 :=
  if r.val < 8 then
    if r.val < 4 then
      if r.val < 2 then
        if r.val < 1 then
          (4294967293#32, 0#32)
        else
          (4294967293#32, 256#32)
      else
        if r.val < 3 then
          (4294967293#32, 512#32)
        else
          (4294967293#32, 768#32)
    else
      if r.val < 6 then
        if r.val < 5 then
          (0#32, 0#32)
        else
          (0#32, 256#32)
      else
        if r.val < 7 then
          (0#32, 512#32)
        else
          (0#32, 768#32)
  else
    if r.val < 12 then
      if r.val < 10 then
        if r.val < 9 then
          (4294967295#32, 0#32)
        else
          (4294967295#32, 256#32)
      else
        if r.val < 11 then
          (4294967295#32, 512#32)
        else
          (4294967295#32, 768#32)
    else
      if r.val < 14 then
        if r.val < 13 then
          (4294967294#32, 0#32)
        else
          (4294967294#32, 256#32)
      else
        if r.val < 15 then
          (4294967294#32, 512#32)
        else
          (4294967294#32, 768#32)
def k0_off4 (d0 : Dev nD) (c3_i32_626 : BitVec 32) (c0_i32_636 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_625 : BitVec 32 := 4#32
  let v502 : BitVec 32 := Scalar.addi v2 c4_i32_625
  let v503 : BitVec 32 := Scalar.addi v502 c3_i32_626
  let c4_i32_627 : BitVec 32 := 4#32
  let v504 : BitVec 32 := Scalar.remsi v503 c4_i32_627
  let c1024_i32_635 : BitVec 32 := 1024#32
  let v518 : BitVec 32 := Scalar.muli v504 c1024_i32_635
  let v519 : BitVec 32 := Scalar.addi v518 c0_i32_636
  let c4096_i32_637 : BitVec 32 := 4096#32
  ![v519.toNat, 4096]
def k0_dev35 (d0 : Dev nD) : Nat :=
  let c0_i32_681 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_680 : BitVec 32 := 1#32
  let v577 : BitVec 32 := Scalar.muli v7 c1_i32_680
  let v578 : BitVec 32 := Scalar.addi c0_i32_681 v577
  v578.toNat
def k0_dev36 (d0 : Dev nD) : Nat :=
  let c0_i32_685 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_684 : BitVec 32 := 1#32
  let v579 : BitVec 32 := Scalar.muli v5 c1_i32_684
  let v580 : BitVec 32 := Scalar.addi c0_i32_685 v579
  v580.toNat
def k0_dev37 (d0 : Dev nD) : Nat :=
  let c0_i32_783 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_782 : BitVec 32 := 1#32
  let v723 : BitVec 32 := Scalar.muli v5 c1_i32_782
  let v724 : BitVec 32 := Scalar.addi c0_i32_783 v723
  v724.toNat
def k0_dev38 (d0 : Dev nD) : Nat :=
  let c0_i32_786 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_785 : BitVec 32 := 1#32
  let v725 : BitVec 32 := Scalar.muli v5 c1_i32_785
  let v726 : BitVec 32 := Scalar.addi c0_i32_786 v725
  v726.toNat
def k0_dev39 (d0 : Dev nD) : Nat :=
  let c0_i32_790 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_789 : BitVec 32 := 1#32
  let v727 : BitVec 32 := Scalar.muli v7 c1_i32_789
  let v728 : BitVec 32 := Scalar.addi c0_i32_790 v727
  v728.toNat
def k0_dev40 (d0 : Dev nD) : Nat :=
  let c0_i32_793 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_792 : BitVec 32 := 1#32
  let v729 : BitVec 32 := Scalar.muli v7 c1_i32_792
  let v730 : BitVec 32 := Scalar.addi c0_i32_793 v729
  v730.toNat
def k0_dev41 (d0 : Dev nD) : Nat :=
  let c0_i32_803 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_802 : BitVec 32 := 1#32
  let v735 : BitVec 32 := Scalar.muli v7 c1_i32_802
  let v736 : BitVec 32 := Scalar.addi c0_i32_803 v735
  v736.toNat
def k0_dev42 (d0 : Dev nD) : Nat :=
  let c0_i32_809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_808 : BitVec 32 := 1#32
  let v737 : BitVec 32 := Scalar.muli v5 c1_i32_808
  let v738 : BitVec 32 := Scalar.addi c0_i32_809 v737
  v738.toNat
def k0_dev43 (d0 : Dev nD) : Nat :=
  let c0_i32_959 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_958 : BitVec 32 := 1#32
  let v956 : BitVec 32 := Scalar.muli v5 c1_i32_958
  let v957 : BitVec 32 := Scalar.addi c0_i32_959 v956
  v957.toNat
def k0_dev44 (d0 : Dev nD) : Nat :=
  let c0_i32_962 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_961 : BitVec 32 := 1#32
  let v958 : BitVec 32 := Scalar.muli v5 c1_i32_961
  let v959 : BitVec 32 := Scalar.addi c0_i32_962 v958
  v959.toNat
def k0_dev45 (d0 : Dev nD) : Nat :=
  let c0_i32_1012 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1011 : BitVec 32 := 1#32
  let v1031 : BitVec 32 := Scalar.muli v7 c1_i32_1011
  let v1032 : BitVec 32 := Scalar.addi c0_i32_1012 v1031
  v1032.toNat
def k0_dev46 (d0 : Dev nD) : Nat :=
  let c0_i32_1015 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1014 : BitVec 32 := 1#32
  let v1033 : BitVec 32 := Scalar.muli v7 c1_i32_1014
  let v1034 : BitVec 32 := Scalar.addi c0_i32_1015 v1033
  v1034.toNat
def k0_dev47 (d0 : Dev nD) : Nat :=
  let c0_i32_1065 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1064 : BitVec 32 := 1#32
  let v1077 : BitVec 32 := Scalar.muli v7 c1_i32_1064
  let v1078 : BitVec 32 := Scalar.addi c0_i32_1065 v1077
  v1078.toNat
def k0_dev48 (d0 : Dev nD) : Nat :=
  let c0_i32_1073 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1072 : BitVec 32 := 1#32
  let v1081 : BitVec 32 := Scalar.muli v7 c1_i32_1072
  let v1082 : BitVec 32 := Scalar.addi c0_i32_1073 v1081
  v1082.toNat
def k0_dev49 (d0 : Dev nD) : Nat :=
  let c0_i32_1081 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1080 : BitVec 32 := 1#32
  let v1085 : BitVec 32 := Scalar.muli v5 c1_i32_1080
  let v1086 : BitVec 32 := Scalar.addi c0_i32_1081 v1085
  v1086.toNat
def k0_dev50 (d0 : Dev nD) : Nat :=
  let c0_i32_1089 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1088 : BitVec 32 := 1#32
  let v1089 : BitVec 32 := Scalar.muli v5 c1_i32_1088
  let v1090 : BitVec 32 := Scalar.addi c0_i32_1089 v1089
  v1090.toNat
def k0_dev51 (d0 : Dev nD) : Nat :=
  let c0_i32_1169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1168 : BitVec 32 := 1#32
  let v1153 : BitVec 32 := Scalar.muli v5 c1_i32_1168
  let v1154 : BitVec 32 := Scalar.addi c0_i32_1169 v1153
  v1154.toNat
def k0_dev52 (d0 : Dev nD) : Nat :=
  let c0_i32_1189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1188 : BitVec 32 := 1#32
  let v1167 : BitVec 32 := Scalar.muli v7 c1_i32_1188
  let v1168 : BitVec 32 := Scalar.addi c0_i32_1189 v1167
  v1168.toNat
def k0_dev53 (d0 : Dev nD) : Nat :=
  let c0_i32_1209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1208 : BitVec 32 := 1#32
  let v1181 : BitVec 32 := Scalar.muli v5 c1_i32_1208
  let v1182 : BitVec 32 := Scalar.addi c0_i32_1209 v1181
  v1182.toNat
def k0_dev54 (d0 : Dev nD) : Nat :=
  let c0_i32_1229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1228 : BitVec 32 := 1#32
  let v1195 : BitVec 32 := Scalar.muli v7 c1_i32_1228
  let v1196 : BitVec 32 := Scalar.addi c0_i32_1229 v1195
  v1196.toNat
def k0_dev55 (d0 : Dev nD) : Nat :=
  let c0_i32_1233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1232 : BitVec 32 := 1#32
  let v1197 : BitVec 32 := Scalar.muli v7 c1_i32_1232
  let v1198 : BitVec 32 := Scalar.addi c0_i32_1233 v1197
  v1198.toNat
def k0_dev56 (d0 : Dev nD) : Nat :=
  let c0_i32_1241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1240 : BitVec 32 := 1#32
  let v1201 : BitVec 32 := Scalar.muli v7 c1_i32_1240
  let v1202 : BitVec 32 := Scalar.addi c0_i32_1241 v1201
  v1202.toNat
def k0_dev57 (d0 : Dev nD) : Nat :=
  let c0_i32_1249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1248 : BitVec 32 := 1#32
  let v1205 : BitVec 32 := Scalar.muli v5 c1_i32_1248
  let v1206 : BitVec 32 := Scalar.addi c0_i32_1249 v1205
  v1206.toNat
def k0_dev58 (d0 : Dev nD) : Nat :=
  let c0_i32_1257 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1256 : BitVec 32 := 1#32
  let v1209 : BitVec 32 := Scalar.muli v5 c1_i32_1256
  let v1210 : BitVec 32 := Scalar.addi c0_i32_1257 v1209
  v1210.toNat
def k0_dev59 (d0 : Dev nD) : Nat :=
  let c0_i32_1337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1336 : BitVec 32 := 1#32
  let v1273 : BitVec 32 := Scalar.muli v5 c1_i32_1336
  let v1274 : BitVec 32 := Scalar.addi c0_i32_1337 v1273
  v1274.toNat
def k0_dev60 (d0 : Dev nD) : Nat :=
  let c0_i32_1357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1356 : BitVec 32 := 1#32
  let v1287 : BitVec 32 := Scalar.muli v7 c1_i32_1356
  let v1288 : BitVec 32 := Scalar.addi c0_i32_1357 v1287
  v1288.toNat
def k0_dev61 (d0 : Dev nD) : Nat :=
  let c0_i32_1377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1376 : BitVec 32 := 1#32
  let v1301 : BitVec 32 := Scalar.muli v5 c1_i32_1376
  let v1302 : BitVec 32 := Scalar.addi c0_i32_1377 v1301
  v1302.toNat
def k0_dev62 (d0 : Dev nD) : Nat :=
  let c0_i32_1397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1396 : BitVec 32 := 1#32
  let v1315 : BitVec 32 := Scalar.muli v7 c1_i32_1396
  let v1316 : BitVec 32 := Scalar.addi c0_i32_1397 v1315
  v1316.toNat
def k0_dev63 (d0 : Dev nD) : Nat :=
  let c0_i32_1401 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1400 : BitVec 32 := 1#32
  let v1317 : BitVec 32 := Scalar.muli v7 c1_i32_1400
  let v1318 : BitVec 32 := Scalar.addi c0_i32_1401 v1317
  v1318.toNat
def k0_dev64 (d0 : Dev nD) : Nat :=
  let c0_i32_1409 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1408 : BitVec 32 := 1#32
  let v1321 : BitVec 32 := Scalar.muli v7 c1_i32_1408
  let v1322 : BitVec 32 := Scalar.addi c0_i32_1409 v1321
  v1322.toNat
def k0_dev65 (d0 : Dev nD) : Nat :=
  let c0_i32_1417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1416 : BitVec 32 := 1#32
  let v1325 : BitVec 32 := Scalar.muli v5 c1_i32_1416
  let v1326 : BitVec 32 := Scalar.addi c0_i32_1417 v1325
  v1326.toNat
def k0_dev66 (d0 : Dev nD) : Nat :=
  let c0_i32_1425 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1424 : BitVec 32 := 1#32
  let v1329 : BitVec 32 := Scalar.muli v5 c1_i32_1424
  let v1330 : BitVec 32 := Scalar.addi c0_i32_1425 v1329
  v1330.toNat
def k0_dev67 (d0 : Dev nD) : Nat :=
  let c0_i32_1505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1504 : BitVec 32 := 1#32
  let v1393 : BitVec 32 := Scalar.muli v5 c1_i32_1504
  let v1394 : BitVec 32 := Scalar.addi c0_i32_1505 v1393
  v1394.toNat
def k0_dev68 (d0 : Dev nD) : Nat :=
  let c0_i32_1525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1524 : BitVec 32 := 1#32
  let v1407 : BitVec 32 := Scalar.muli v7 c1_i32_1524
  let v1408 : BitVec 32 := Scalar.addi c0_i32_1525 v1407
  v1408.toNat
def k0_dev69 (d0 : Dev nD) : Nat :=
  let c0_i32_1545 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1544 : BitVec 32 := 1#32
  let v1421 : BitVec 32 := Scalar.muli v5 c1_i32_1544
  let v1422 : BitVec 32 := Scalar.addi c0_i32_1545 v1421
  v1422.toNat
def k0_dev70 (d0 : Dev nD) : Nat :=
  let c0_i32_1565 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1564 : BitVec 32 := 1#32
  let v1435 : BitVec 32 := Scalar.muli v7 c1_i32_1564
  let v1436 : BitVec 32 := Scalar.addi c0_i32_1565 v1435
  v1436.toNat
def k0_dev71 (d0 : Dev nD) : Nat :=
  let c0_i32_1568 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1567 : BitVec 32 := 1#32
  let v1437 : BitVec 32 := Scalar.muli v5 c1_i32_1567
  let v1438 : BitVec 32 := Scalar.addi c0_i32_1568 v1437
  v1438.toNat
def k0_dev72 (d0 : Dev nD) : Nat :=
  let c0_i32_1571 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1570 : BitVec 32 := 1#32
  let v1439 : BitVec 32 := Scalar.muli v7 c1_i32_1570
  let v1440 : BitVec 32 := Scalar.addi c0_i32_1571 v1439
  v1440.toNat
def k0_dev73 (d0 : Dev nD) : Nat :=
  let c0_i32_1577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1576 : BitVec 32 := 1#32
  let v1441 : BitVec 32 := Scalar.muli v7 c1_i32_1576
  let v1442 : BitVec 32 := Scalar.addi c0_i32_1577 v1441
  v1442.toNat
def k0_dev74 (d0 : Dev nD) : Nat :=
  let c0_i32_1583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1582 : BitVec 32 := 1#32
  let v1443 : BitVec 32 := Scalar.muli v5 c1_i32_1582
  let v1444 : BitVec 32 := Scalar.addi c0_i32_1583 v1443
  v1444.toNat
def k0_off5 (d0 : Dev nD) (c_m3_i32_1585 : BitVec 32) (c0_i32_1595 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1584 : BitVec 32 := 4#32
  let v1445 : BitVec 32 := Scalar.addi v2 c4_i32_1584
  let v1446 : BitVec 32 := Scalar.addi v1445 c_m3_i32_1585
  let c4_i32_1586 : BitVec 32 := 4#32
  let v1447 : BitVec 32 := Scalar.remsi v1446 c4_i32_1586
  let c1024_i32_1594 : BitVec 32 := 1024#32
  let v1461 : BitVec 32 := Scalar.muli v1447 c1024_i32_1594
  let v1462 : BitVec 32 := Scalar.addi v1461 c0_i32_1595
  let c2048_i32_1596 : BitVec 32 := 2048#32
  ![v1462.toNat, 2048]
def k0_off5_at (r : Fin 16) : BitVec 32 × BitVec 32 :=
  if r.val < 8 then
    if r.val < 4 then
      if r.val < 2 then
        if r.val < 1 then
          (4294967293#32, 0#32)
        else
          (4294967293#32, 256#32)
      else
        if r.val < 3 then
          (4294967293#32, 512#32)
        else
          (4294967293#32, 768#32)
    else
      if r.val < 6 then
        if r.val < 5 then
          (0#32, 0#32)
        else
          (0#32, 256#32)
      else
        if r.val < 7 then
          (0#32, 512#32)
        else
          (0#32, 768#32)
  else
    if r.val < 12 then
      if r.val < 10 then
        if r.val < 9 then
          (4294967295#32, 0#32)
        else
          (4294967295#32, 256#32)
      else
        if r.val < 11 then
          (4294967295#32, 512#32)
        else
          (4294967295#32, 768#32)
    else
      if r.val < 14 then
        if r.val < 13 then
          (4294967294#32, 0#32)
        else
          (4294967294#32, 256#32)
      else
        if r.val < 15 then
          (4294967294#32, 512#32)
        else
          (4294967294#32, 768#32)
def k0_off6 (d0 : Dev nD) (c3_i32_1632 : BitVec 32) (c0_i32_1642 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1631 : BitVec 32 := 4#32
  let v1516 : BitVec 32 := Scalar.addi v2 c4_i32_1631
  let v1517 : BitVec 32 := Scalar.addi v1516 c3_i32_1632
  let c4_i32_1633 : BitVec 32 := 4#32
  let v1518 : BitVec 32 := Scalar.remsi v1517 c4_i32_1633
  let c1024_i32_1641 : BitVec 32 := 1024#32
  let v1532 : BitVec 32 := Scalar.muli v1518 c1024_i32_1641
  let v1533 : BitVec 32 := Scalar.addi v1532 c0_i32_1642
  let c6144_i32_1643 : BitVec 32 := 6144#32
  ![v1533.toNat, 6144]
def k0_dev75 (d0 : Dev nD) : Nat :=
  let c0_i32_1687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1686 : BitVec 32 := 1#32
  let v1591 : BitVec 32 := Scalar.muli v7 c1_i32_1686
  let v1592 : BitVec 32 := Scalar.addi c0_i32_1687 v1591
  v1592.toNat
def k0_dev76 (d0 : Dev nD) : Nat :=
  let c0_i32_1691 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1690 : BitVec 32 := 1#32
  let v1593 : BitVec 32 := Scalar.muli v5 c1_i32_1690
  let v1594 : BitVec 32 := Scalar.addi c0_i32_1691 v1593
  v1594.toNat
def k0_dev77 (d0 : Dev nD) : Nat :=
  let c0_i32_1789 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1788 : BitVec 32 := 1#32
  let v1737 : BitVec 32 := Scalar.muli v5 c1_i32_1788
  let v1738 : BitVec 32 := Scalar.addi c0_i32_1789 v1737
  v1738.toNat
def k0_dev78 (d0 : Dev nD) : Nat :=
  let c0_i32_1792 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1791 : BitVec 32 := 1#32
  let v1739 : BitVec 32 := Scalar.muli v5 c1_i32_1791
  let v1740 : BitVec 32 := Scalar.addi c0_i32_1792 v1739
  v1740.toNat
def k0_dev79 (d0 : Dev nD) : Nat :=
  let c0_i32_1796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1795 : BitVec 32 := 1#32
  let v1741 : BitVec 32 := Scalar.muli v7 c1_i32_1795
  let v1742 : BitVec 32 := Scalar.addi c0_i32_1796 v1741
  v1742.toNat
def k0_dev80 (d0 : Dev nD) : Nat :=
  let c0_i32_1799 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1798 : BitVec 32 := 1#32
  let v1743 : BitVec 32 := Scalar.muli v7 c1_i32_1798
  let v1744 : BitVec 32 := Scalar.addi c0_i32_1799 v1743
  v1744.toNat
def k0_dev81 (d0 : Dev nD) : Nat :=
  let c0_i32_1809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1808 : BitVec 32 := 1#32
  let v1749 : BitVec 32 := Scalar.muli v7 c1_i32_1808
  let v1750 : BitVec 32 := Scalar.addi c0_i32_1809 v1749
  v1750.toNat
def k0_dev82 (d0 : Dev nD) : Nat :=
  let c0_i32_1815 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1814 : BitVec 32 := 1#32
  let v1751 : BitVec 32 := Scalar.muli v5 c1_i32_1814
  let v1752 : BitVec 32 := Scalar.addi c0_i32_1815 v1751
  v1752.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Program.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

/-! # The body as a chain of phases

The body of the kernel at device `c`, rewritten as phases in continuation form. Each phase is written once and
taken at the direction `D` (`false`: the ring to the right, `true`: the ring to the left), the pass `p` and the
step at hand. -/

@[expose] public section

noncomputable section

namespace Cert.Proof.Ring

open Idealize.ShloMosaic Idealize.ShloMosaic.TcCoe Idealize.SL.Sem Cert.KernelIdeal Cert.KernelIdeal.Gen

variable {F : FTy → Type} [FloatOps F]

/-- Programs of the body. -/
abbrev Pg (F : FTy → Type) [FloatOps F] := Prog (TpuEff nD τ sig (Elt F) Λ₀ .tc) PUnit

/-! ## Buffers, semaphores, neighbours -/

/-- The accumulator of direction `D`. -/
def bS (D : Bool) : Memref sig .tc .vmem S1024x2048 .bf16 :=
  match D with | false => Memref.whole cc0_scratch0 | true => Memref.whole cc0_scratch3
/-- The receive buffer of direction `D`. -/
def bR (D : Bool) : Memref sig .tc .vmem S1024x2048 .bf16 :=
  match D with | false => Memref.whole cc0_scratch1 | true => Memref.whole cc0_scratch4
/-- The work buffer of direction `D`. -/
def bW (D : Bool) : Memref sig .tc .vmem S1024x2048 .bf16 :=
  match D with | false => Memref.whole cc0_scratch2 | true => Memref.whole cc0_scratch5
/-- The buffer of the left operand's rows. -/
abbrev bX : Memref sig .tc .vmem S1024x1024 .bf16 := Memref.whole cc0_scratch6
/-- The buffer of the right operand's columns. -/
abbrev bY : Memref sig .tc .vmem S1024x1024 .bf16 := Memref.whole cc0_scratch7
/-- The buffer a tile of the result is staged in. -/
abbrev bT : Memref sig .tc .vmem S256x2048 .f32 := Memref.whole cc0_scratch8
/-- The left operand, the right operand, the result. -/
abbrev aX : Memref sig .tc .hbm S4096x1024 .bf16 := Memref.whole main_arg0
@[inherit_doc aX] abbrev aW : Memref sig .tc .hbm S1024x8192 .bf16 := Memref.whole main_arg1
@[inherit_doc aX] abbrev aO : Memref sig .tc .hbm S4096x8192 .f32 := Memref.whole main_v1

/-- A direction's sending buffer is a whole buffer, -/
theorem whole_bS (D : Bool) : (bS D).IsWhole := by cases D <;> exact Memref.isWhole_whole _
/-- and so is its receiving buffer, -/
theorem whole_bR (D : Bool) : (bR D).IsWhole := by cases D <;> exact Memref.isWhole_whole _
/-- and its work buffer. -/
theorem whole_bW (D : Bool) : (bW D).IsWhole := by cases D <;> exact Memref.isWhole_whole _

/-- The semaphore sends of half `s` complete on at the sender. -/
def sSend (D s : Bool) : DmaSem sig :=
  match D, s with
  | false, false => cc0_scratch9.sem | false, true => cc0_scratch10.sem
  | true, false => cc0_scratch13.sem | true, true => cc0_scratch14.sem
/-- The semaphore sends of half `s` complete on at the receiver. -/
def sRecv (D s : Bool) : DmaSem sig :=
  match D, s with
  | false, false => cc0_scratch11.sem | false, true => cc0_scratch12.sem
  | true, false => cc0_scratch15.sem | true, true => cc0_scratch16.sem
/-- The credit for half `s` of the receive buffer at the target. -/
def sCred (D s : Bool) : Sem sig :=
  match D, s with
  | false, false => cc0_scratch20.sem | false, true => cc0_scratch21.sem
  | true, false => cc0_scratch23.sem | true, true => cc0_scratch24.sem
/-- The credit for the work buffer at the target. -/
def sCredW (D : Bool) : Sem sig :=
  match D with | false => cc0_scratch22.sem | true => cc0_scratch25.sem
/-- The semaphores of the copies within a device. -/
abbrev sX : DmaSem sig := cc0_scratch17.sem
@[inherit_doc sX] abbrev sY : DmaSem sig := cc0_scratch18.sem
@[inherit_doc sX] abbrev sO : DmaSem sig := cc0_scratch19.sem
/-- The barrier. -/
abbrev sBar : Sem sig := (SemArray.scalar (sig.barrier 0 rfl) : Sems sig S_).sem

/-- The left and the right neighbour. -/
def lft (c : Dev nD) : Dev nD := ⟨k0_dev1 c, k0_dev1_lt c⟩
@[inherit_doc lft] def rgt (c : Dev nD) : Dev nD := ⟨k0_dev2 c, k0_dev2_lt c⟩
/-- Where direction `D` sends, -/
def tgt (D : Bool) (c : Dev nD) : Dev nD := match D with | false => rgt c | true => lft c
/-- and whence it receives. -/
def src (D : Bool) (c : Dev nD) : Dev nD := match D with | false => lft c | true => rgt c

/-! ## Offsets -/

/-- The first column of direction `D` at pass `p`. -/
def colB (D : Bool) (p : Fin 2) : Nat := (match D with | false => 0 | true => 4096) + 2048 * p.val
/-- The first column of half `s` within a buffer. -/
def hcol (s : Bool) : Nat := match s with | false => 0 | true => 1024
/-- Half `s` of a buffer: its offset, -/
def hOff (s : Bool) : Fin 2 → Nat := ![0, hcol s]
/-- the columns of the right operand for half `s`, -/
def wOff (D : Bool) (p : Fin 2) (s : Bool) : Fin 2 → Nat := ![0, colB D p + hcol s]
/-- the rows of the left operand for the block `k` steps behind the device, -/
def xOff (D : Bool) (c : Dev nD) (k : Fin 4) : Fin 2 → Nat :=
  match D, k with
  | _, 0 => k0_off1 c
  | false, 1 => k0_off2 c 4294967295#32
  | false, 2 => k0_off2 c 4294967294#32
  | false, 3 => k0_off2 c 4294967293#32
  | true, 1 => k0_off2 c 1#32
  | true, 2 => k0_off2 c 2#32
  | true, 3 => k0_off2 c 3#32
/-- the word of tile `t`'s first row within a block, -/
def tWord (t : Fin 4) : BitVec 32 := match t with | 0 => 0#32 | 1 => 256#32 | 2 => 512#32 | 3 => 768#32
/-- a tile of a buffer, -/
def tOff (t : Fin 4) : Fin 2 → Nat := match t with | 0 => ![0, 0] | 1 => ![256, 0] | 2 => ![512, 0] | 3 => ![768, 0]
/-- and the tile of the result for the block `k` steps behind. -/
def oOff (D : Bool) (p : Fin 2) (c : Dev nD) (k : Fin 4) (t : Fin 4) : Fin 2 → Nat :=
  match D, p, k with
  | false, 0, 0 => k0_off3 c 0#32 (tWord t)
  | false, 0, 1 => k0_off3 c 4294967295#32 (tWord t)
  | false, 0, 2 => k0_off3 c 4294967294#32 (tWord t)
  | false, 0, 3 => k0_off3 c 4294967293#32 (tWord t)
  | true, 0, 0 => k0_off4 c 0#32 (tWord t)
  | true, 0, 1 => k0_off4 c 1#32 (tWord t)
  | true, 0, 2 => k0_off4 c 2#32 (tWord t)
  | true, 0, 3 => k0_off4 c 3#32 (tWord t)
  | false, 1, 0 => k0_off5 c 0#32 (tWord t)
  | false, 1, 1 => k0_off5 c 4294967295#32 (tWord t)
  | false, 1, 2 => k0_off5 c 4294967294#32 (tWord t)
  | false, 1, 3 => k0_off5 c 4294967293#32 (tWord t)
  | true, 1, 0 => k0_off6 c 0#32 (tWord t)
  | true, 1, 1 => k0_off6 c 1#32 (tWord t)
  | true, 1, 2 => k0_off6 c 2#32 (tWord t)
  | true, 1, 3 => k0_off6 c 3#32 (tWord t)

/-- The block `k` steps behind device `c`, against direction `D`. -/
def ck (D : Bool) (c : Dev nD) (k : Fin 4) : Fin 4 :=
  match D with | false => ⟨(c.val + 4 - k.val) % 4, Nat.mod_lt _ (by decide)⟩ | true => ⟨(c.val + k.val) % 4, Nat.mod_lt _ (by decide)⟩

/-- Where a block of the left operand starts. -/
theorem xOff_eq : ∀ (D : Bool) (c : Dev nD) (k : Fin 4), xOff D c k = ![1024 * (ck D c k).val, 0] := by decide +kernel
/-- Where a tile of the result starts. -/
theorem oOff_eq : ∀ (D : Bool) (p : Fin 2) (c : Dev nD) (k t : Fin 4),
    oOff D p c k t = ![1024 * (ck D c k).val + 256 * t.val, colB D p] := by decide +kernel
/-- Where a tile of a buffer starts. -/
theorem tOff_eq : ∀ t : Fin 4, tOff t = ![256 * t.val, 0] := by decide +kernel

/-- A half lies within a buffer, -/
theorem hOff_inb : ∀ (s : Bool) (a : Fin 2), hOff s a + S1024x1024.size a ≤ S1024x2048.size a := by decide +kernel
/-- a block of the right operand within it, -/
theorem wOff_inb : ∀ (D : Bool) (p : Fin 2) (s : Bool) (a : Fin 2), wOff D p s a + S1024x1024.size a ≤ S1024x8192.size a := by decide +kernel
/-- a block of the left operand within it, -/
theorem xOff_inb : ∀ (D : Bool) (c : Dev nD) (k : Fin 4) (a : Fin 2), xOff D c k a + S1024x1024.size a ≤ S4096x1024.size a := by decide +kernel
/-- a tile within a buffer, -/
theorem tOff_inb : ∀ (t : Fin 4) (a : Fin 2), tOff t a + S256x2048.size a ≤ S1024x2048.size a := by decide +kernel
/-- and a tile of the result within the result. -/
theorem oOff_inb : ∀ (D : Bool) (p : Fin 2) (c : Dev nD) (k t : Fin 4) (a : Fin 2),
    oOff D p c k t a + S256x2048.size a ≤ S4096x8192.size a := by decide +kernel

/-- Half `s` of a buffer as a rectangle. -/
abbrev hRect (s : Bool) : Rect S1024x2048 := Rect.unit (s := S1024x2048) (hOff s) S1024x1024.size (hOff_inb s)
/-- The columns of the right operand as a rectangle. -/
abbrev wRect (D : Bool) (p : Fin 2) (s : Bool) : Rect S1024x8192 := Rect.unit (s := S1024x8192) (wOff D p s) S1024x1024.size (wOff_inb D p s)
/-- The rows of the left operand as a rectangle. -/
abbrev xRect (D : Bool) (c : Dev nD) (k : Fin 4) : Rect S4096x1024 := Rect.unit (s := S4096x1024) (xOff D c k) S1024x1024.size (xOff_inb D c k)
/-- A tile of a buffer as a rectangle. -/
abbrev tRect (t : Fin 4) : Rect S1024x2048 := Rect.unit (s := S1024x2048) (tOff t) S256x2048.size (tOff_inb t)
/-- A tile of the result as a rectangle. -/
abbrev oRect (D : Bool) (p : Fin 2) (c : Dev nD) (k t : Fin 4) : Rect S4096x8192 :=
  Rect.unit (s := S4096x8192) (oOff D p c k t) S256x2048.size (oOff_inb D p c k t)
/-- The whole of an operand's buffer as a rectangle. -/
abbrev fRect : Rect S1024x1024 := Rect.unit (s := S1024x1024) ![0, 0] S1024x1024.size inb_S1024x1024_S1024x1024_0_0
/-- The whole of the staging buffer as a rectangle. -/
abbrev gRect : Rect S256x2048 := Rect.unit (s := S256x2048) ![0, 0] S256x2048.size inb_S256x2048_S256x2048_0_0

/-- A half is made of whole words, -/
theorem hRect_words : ∀ s, (hRect s).WholeWords (EltTy.packing .bf16) := by decide +kernel
/-- and of whole packed rows; -/
theorem hRect_packed : ∀ s, (hRect s).PackedRows (EltTy.packing .bf16) := by decide +kernel
/-- a block of the right operand is made of whole words, -/
theorem wRect_words : ∀ D p s, (wRect D p s).WholeWords (EltTy.packing .bf16) := by decide +kernel
/-- and so is a block of the left operand. -/
theorem xRect_words : ∀ D c k, (xRect D c k).WholeWords (EltTy.packing .bf16) := by decide +kernel

/-- Half `s` of a buffer, as a view. -/
abbrev half (m : Memref sig .tc .vmem S1024x2048 .bf16) (s : Bool) : Memref sig .tc .vmem S1024x1024 .bf16 :=
  m.slice (hRect s) (fun _ => rfl)
/-- The rows of the left operand, the columns of the right, a tile of the result, as views. -/
abbrev vX (D : Bool) (c : Dev nD) (k : Fin 4) : Memref sig .tc .hbm S1024x1024 .bf16 := aX.slice (xRect D c k) (fun _ => rfl)
@[inherit_doc vX] abbrev vW (D : Bool) (p : Fin 2) (s : Bool) : Memref sig .tc .hbm S1024x1024 .bf16 := aW.slice (wRect D p s) (fun _ => rfl)
@[inherit_doc vX] abbrev vO (D : Bool) (p : Fin 2) (c : Dev nD) (k t : Fin 4) : Memref sig .tc .hbm S256x2048 .f32 :=
  aO.slice (oRect D p c k t) (fun _ => rfl)

/-! ## Payloads -/

/-- A block product: rows of the left operand by columns of the right, rounded to the buffer's type. -/
def mmP (x w : Vec F S1024x1024 .bf16) : FVec F S1024x1024 .bf16 := k0_pay1 x w
/-- The sum of what was received and the device's own part. -/
def addP (r w : Vec F S1024x1024 .bf16) : FVec F S1024x1024 .bf16 := k0_pay9 r w
/-- The activation of a tile. -/
def actP (v : Vec F S256x2048 .bf16) : FVec F S256x2048 .f32 := k0_pay34 v

/-! ## Phases -/

/-- Copy rows of the left operand in. -/
def getX (D : Bool) (c : Dev nD) (k : Fin 4) (K : Pg F) : Pg F :=
  .op (.enqueueDma (vX D c k) (.here bX) (.dma sX) ((Memref.isWhole_whole _).wordExact_slice rfl _ (xRect_words D c k))
    (Memref.isWhole_whole _).wordExact ⟨Or.inl rfl, trivial⟩) fun _ => K
/-- Wait for them. -/
def waitX (D : Bool) (c : Dev nD) (k : Fin 4) (K : Pg F) : Pg F :=
  .op (.waitDma2 sX (vX D c k) bX ((Memref.isWhole_whole _).wordExact_slice rfl _ (xRect_words D c k))
    (Memref.isWhole_whole _).wordExact) fun _ => K
/-- Copy columns of the right operand in. -/
def getY (D : Bool) (p : Fin 2) (s : Bool) (K : Pg F) : Pg F :=
  .op (.enqueueDma (vW D p s) (.here bY) (.dma sY) ((Memref.isWhole_whole _).wordExact_slice rfl _ (wRect_words D p s))
    (Memref.isWhole_whole _).wordExact ⟨Or.inl rfl, trivial⟩) fun _ => K
/-- Wait for them. -/
def waitY (D : Bool) (p : Fin 2) (s : Bool) (K : Pg F) : Pg F :=
  .op (.waitDma2 sY (vW D p s) bY ((Memref.isWhole_whole _).wordExact_slice rfl _ (wRect_words D p s))
    (Memref.isWhole_whole _).wordExact) fun _ => K
/-- Multiply the two operands' buffers into half `s` of the buffer `m`. -/
def mulInto (m : Memref sig .tc .vmem S1024x2048 .bf16) (hm : m.IsWhole) (s : Bool) (K : Pg F) : Pg F :=
  .op (.load bX fRect.toLoadRect (View.loadsAt_vmem h_S1024x1024)) fun (x : Vec F S1024x1024 .bf16) =>
  .op (.load bY fRect.toLoadRect (View.loadsAt_vmem h_S1024x1024)) fun (w : Vec F S1024x1024 .bf16) =>
  .op (.load m (hRect s).toLoadRect (View.loadsAt_vmem h_S1024x1024)) fun (_ : Vec F S1024x1024 .bf16) =>
  .op (.store m (hRect s) (mmP x w) Finset.univ
    (View.stores_vmem h_S1024x1024 (hm.storeExact_slice rfl _ (hRect_packed s)) (fun _ => rfl)) (.inl rfl)) fun _ => K
/-- Compute the device's part of the block `k` steps behind, both halves, into `m`. -/
def compute (D : Bool) (p : Fin 2) (c : Dev nD) (k : Fin 4) (m : Memref sig .tc .vmem S1024x2048 .bf16) (hm : m.IsWhole) (K : Pg F) : Pg F :=
  getX D c k <| getY D p false <| waitX D c k <| waitY D p false <| mulInto m hm false <|
  getY D p true <| waitY D p true <| mulInto m hm true K

/-- Give a credit. -/
def giveC (d : Dev nD) (q : Sem sig) (K : Pg F) : Pg F := .op (.semSignal (d, .tc) q ((1#32 : BitVec 32).toInt)) fun _ => K
/-- Wait on a regular semaphore for `n`. -/
def waitC (q : Sem sig) (n : BitVec 32) (K : Pg F) : Pg F := .op (.semWait q n.toInt) fun _ => K
/-- Wait on a DMA semaphore for the completion of a copy between halves. -/
def waitH (q : DmaSem sig) (m m' : Memref sig .tc .vmem S1024x2048 .bf16) (hm : m.IsWhole) (hm' : m'.IsWhole) (s : Bool) (K : Pg F) : Pg F :=
  .op (.waitDma2 q (half m s) (half m' s) (hm.wordExact_slice rfl _ (hRect_words s)) (hm'.wordExact_slice rfl _ (hRect_words s))) fun _ => K
/-- Wait on a DMA semaphore for the completion of a copy between whole buffers. -/
def waitF (q : DmaSem sig) (m m' : Memref sig .tc .vmem S1024x2048 .bf16) (hm : m.IsWhole) (hm' : m'.IsWhole) (K : Pg F) : Pg F :=
  .op (.waitDma2 q m m' hm.wordExact hm'.wordExact) fun _ => K
/-- Send half `s` of the accumulator to the target's receive buffer. -/
def sendH (D s : Bool) (c : Dev nD) (K : Pg F) : Pg F :=
  waitC (sCred D s) 1#32 <|
  .op (.enqueueDma (half (bS D) s) (.remote (Dev.tc (tgt D c)) (half (bR D) s) (.dma (sSend D s))) (.dma (sRecv D s))
    ((whole_bS D).wordExact_slice rfl _ (hRect_words s)) ((whole_bR D).wordExact_slice rfl _ (hRect_words s))
    ⟨⟨rfl, Or.inl rfl⟩, trivial⟩) fun _ => K
/-- Send the whole of `m` to the target's `m'`. -/
def sendF (D s : Bool) (c : Dev nD) (m m' : Memref sig .tc .vmem S1024x2048 .bf16) (hm : m.IsWhole) (hm' : m'.IsWhole) (K : Pg F) : Pg F :=
  .op (.enqueueDma m (.remote (Dev.tc (tgt D c)) m' (.dma (sSend D false))) (.dma (sRecv D s))
    hm.wordExact hm'.wordExact ⟨⟨rfl, Or.inl rfl⟩, trivial⟩) fun _ => K
/-- Receive half `s`, add the device's own part to it, and give the half's credit. -/
def addH (D s : Bool) (c : Dev nD) (K : Pg F) : Pg F :=
  waitH (sRecv D s) (bS D) (bR D) (whole_bS D) (whole_bR D) s <|
  waitH (sSend D s) (bR D) (bS D) (whole_bR D) (whole_bS D) s <|
  .op (.load (bR D) (hRect s).toLoadRect (View.loadsAt_vmem h_S1024x1024)) fun (r : Vec F S1024x1024 .bf16) =>
  .op (.load (bW D) (hRect s).toLoadRect (View.loadsAt_vmem h_S1024x1024)) fun (w : Vec F S1024x1024 .bf16) =>
  .op (.load (bS D) (hRect s).toLoadRect (View.loadsAt_vmem h_S1024x1024)) fun (_ : Vec F S1024x1024 .bf16) =>
  .op (.store (bS D) (hRect s) (addP r w) Finset.univ
    (View.stores_vmem h_S1024x1024 ((whole_bS D).storeExact_slice rfl _ (hRect_packed s)) (fun _ => rfl)) (.inl rfl)) fun _ =>
  giveC (src D c) (sCred D s) K
/-- Put tile `t` of `m`, activated, in the result. -/
def putT (D : Bool) (p : Fin 2) (c : Dev nD) (k : Fin 4) (m : Memref sig .tc .vmem S1024x2048 .bf16) (t : Fin 4) (K : Pg F) : Pg F :=
  .op (.load m (tRect t).toLoadRect (View.loadsAt_vmem h_S256x2048)) fun (v : Vec F S256x2048 .bf16) =>
  .op (.load bT gRect.toLoadRect (View.loadsAt_vmem h_S256x2048)) fun (_ : Vec F S256x2048 .f32) =>
  .op (.store bT gRect (actP v) Finset.univ (View.stores_vmem_bits_univ h_S256x2048 rfl) (.inl rfl)) fun _ =>
  .op (.enqueueDma bT (.here (vO D p c k t)) (.dma sO) (Memref.isWhole_whole _).wordExact (View.wordExact_bits rfl) ⟨Or.inl rfl, trivial⟩) fun _ =>
  .op (.waitDma2 sO bT (vO D p c k t) (Memref.isWhole_whole _).wordExact (View.wordExact_bits rfl)) fun _ => K
/-- Put the whole of `m`, activated, in the result. -/
def put (D : Bool) (p : Fin 2) (c : Dev nD) (k : Fin 4) (m : Memref sig .tc .vmem S1024x2048 .bf16) (K : Pg F) : Pg F :=
  putT D p c k m 0 <| putT D p c k m 1 <| putT D p c k m 2 <| putT D p c k m 3 K

/-- One step of the reduction: send both halves both ways, compute the next part, add. -/
def hstep (p : Fin 2) (c : Dev nD) (k : Fin 4) (K : Pg F) : Pg F :=
  sendH false false c <| sendH false true c <| sendH true false c <| sendH true true c <|
  compute false p c k (bW false) (whole_bW _) <| compute true p c k (bW true) (whole_bW _) <|
  addH false false c <| addH true false c <| addH false true c <| addH true true c K

/-- The first round of the gather, one direction's sending: the reduced block to the target's receive buffer. -/
def send0 (D : Bool) (c : Dev nD) (m : Memref sig .tc .vmem S1024x2048 .bf16) (hm : m.IsWhole) (K : Pg F) : Pg F :=
  waitC (sCred D false) 1#32 <| waitC (sCred D true) 1#32 <| sendF D false c m (bR D) hm (whole_bR D) K
/-- Give both credits of the receive buffer. -/
def giveR (D : Bool) (c : Dev nD) (K : Pg F) : Pg F := giveC (src D c) (sCred D false) <| giveC (src D c) (sCred D true) K

/-- The first round of the gather. -/
def gather0 (p : Fin 2) (c : Dev nD) (K : Pg F) : Pg F :=
  send0 false c (bS false) (whole_bS _) <| send0 true c (bS true) (whole_bS _) <|
  put false p c 3 (bS false) <| put true p c 3 (bS true) <|
  waitF (sRecv false false) (bS false) (bR false) (whole_bS _) (whole_bR _) <|
  waitF (sSend false false) (bR false) (bS false) (whole_bR _) (whole_bS _) <|
  waitF (sRecv true false) (bS true) (bR true) (whole_bS _) (whole_bR _) <|
  waitF (sSend true false) (bR true) (bS true) (whole_bR _) (whole_bS _) K
/-- The second round of the gather. -/
def gather1 (p : Fin 2) (c : Dev nD) (K : Pg F) : Pg F :=
  waitC (sCredW false) 1#32 <| sendF false true c (bR false) (bW false) (whole_bR _) (whole_bW _) <|
  waitC (sCredW true) 1#32 <| sendF true true c (bR true) (bW true) (whole_bR _) (whole_bW _) <|
  put false p c 0 (bR false) <| put true p c 0 (bR true) <|
  waitF (sSend false false) (bW false) (bR false) (whole_bW _) (whole_bR _) <| giveR false c <|
  waitF (sSend true false) (bW true) (bR true) (whole_bW _) (whole_bR _) <| giveR true c <|
  waitF (sRecv false true) (bR false) (bW false) (whole_bR _) (whole_bW _) <|
  waitF (sRecv true true) (bR true) (bW true) (whole_bR _) (whole_bW _) K
/-- The third round of the gather, up to the last stores. -/
def gather2 (p : Fin 2) (c : Dev nD) (K : Pg F) : Pg F :=
  send0 false c (bW false) (whole_bW _) <| send0 true c (bW true) (whole_bW _) <|
  put false p c 1 (bW false) <| put true p c 1 (bW true) <|
  waitF (sSend false false) (bR false) (bW false) (whole_bR _) (whole_bW _) <|
  waitF (sRecv false false) (bW false) (bR false) (whole_bW _) (whole_bR _) <|
  waitF (sSend true false) (bR true) (bW true) (whole_bR _) (whole_bW _) <|
  waitF (sRecv true false) (bW true) (bR true) (whole_bW _) (whole_bR _) K

/-- One pass, up to its last stores. -/
def pass (p : Fin 2) (c : Dev nD) (K : Pg F) : Pg F :=
  compute false p c 0 (bS false) (whole_bS _) <| compute true p c 0 (bS true) (whole_bS _) <|
  hstep p c 1 <| hstep p c 2 <| hstep p c 3 <|
  giveC (src false c) (sCredW false) <| giveC (src true c) (sCredW true) <|
  gather0 p c <| gather1 p c <| gather2 p c K

/-- The start: the barrier with both neighbours, then the first credits. -/
def start (c : Dev nD) (K : Pg F) : Pg F :=
  giveC (lft c) sBar <| giveC (rgt c) sBar <| waitC sBar 2#32 <|
  giveR false c <| giveR true c K

/-- The body at device `c`. -/
def body (c : Dev nD) : Pg F :=
  start c <|
  pass 0 c <| put false 0 c 2 (bR false) <| giveR false c <| put true 0 c 2 (bR true) <| giveR true c <|
  pass 1 c <| put false 1 c 2 (bR false) <| put true 1 c 2 (bR true) <| .ret ⟨⟩

end Cert.Proof.Ring
-- ==== Proof.Contents.lean ====
module

public import proofs.«01_k».proof.Proof.Program

/-! # What the buffers hold

The contents of the communication buffers as functions of a row and a column, the halves of a buffer, and what
every buffer holds during a run from the memory `m`. -/

@[expose] public section

noncomputable section

namespace Cert.Proof.Ring

open Idealize.ShloMosaic Idealize.ShloMosaic.TcCoe Idealize.SL.Sem Cert.KernelIdeal Cert.KernelIdeal.Gen

variable {F : FTy → Type} [FloatOps F]

/-- Contents of a communication buffer. -/
abbrev Cts (F : FTy → Type) [FloatOps F] := S1024x2048.Idx → Elt F .bf16
/-- Contents of one half. -/
abbrev HCts (F : FTy → Type) [FloatOps F] := S1024x1024.Idx → Elt F .bf16

/-! ## Halves -/

/-- Half `s` of contents. -/
def hOf {α : Type} (X : S1024x2048.Idx → α) (s : Bool) : S1024x1024.Idx → α := fun j => X ((hRect s).idx j)

/-- A column of a buffer, within its half. -/
def hIx (i : S1024x2048.Idx) : S1024x1024.Idx
  | ⟨0, _⟩ => ⟨(i 0).val, (i 0).isLt⟩
  | ⟨1, _⟩ => ⟨(i 1).val % 1024, Nat.mod_lt _ (by decide)⟩
/-- The half a column is in. -/
def hSide (i : S1024x2048.Idx) : Bool := decide (1024 ≤ (i 1).val)

/-- Contents of a buffer from the contents of its halves. -/
def glue {α : Type} (A : Bool → S1024x1024.Idx → α) : S1024x2048.Idx → α := fun i => A (hSide i) (hIx i)

/-- An element of half `s` lies in half `s`, -/
theorem hSide_idx (s : Bool) (j : S1024x1024.Idx) : hSide ((hRect s).idx j) = s := by
  have hj : (j 1).val < 1024 := (j 1).isLt
  cases s
  · exact decide_eq_false (by show ¬ 1024 ≤ 0 + 1 * (j 1).val; omega)
  · exact decide_eq_true (by show 1024 ≤ 1024 + 1 * (j 1).val; omega)

/-- at its own place within the half. -/
theorem hIx_idx (s : Bool) (j : S1024x1024.Idx) : hIx ((hRect s).idx j) = j := by
  have hj : (j 1).val < 1024 := (j 1).isLt
  funext a
  match a with
  | ⟨0, _⟩ => cases s <;> exact Fin.ext (by show 0 + 1 * (j 0).val = (j 0).val; omega)
  | ⟨1, _⟩ =>
    cases s
    · exact Fin.ext (by show (0 + 1 * (j 1).val) % 1024 = (j 1).val; omega)
    · exact Fin.ext (by show (1024 + 1 * (j 1).val) % 1024 = (j 1).val; omega)

/-- Half `s` of glued contents is the contents given for it. -/
theorem hOf_glue {α : Type} (A : Bool → S1024x1024.Idx → α) (s : Bool) : hOf (glue A) s = A s := by
  funext j; show A (hSide _) (hIx _) = A s j; rw [hSide_idx, hIx_idx]

/-- The index of a buffer is its half's, placed. -/
theorem idx_hIx (i : S1024x2048.Idx) : (hRect (hSide i)).idx (hIx i) = i := by
  have h1 : (i 1).val < 2048 := (i 1).isLt
  funext a
  by_cases h : 1024 ≤ (i 1).val
  · have hs : hSide i = true := decide_eq_true h
    match a with
    | ⟨0, _⟩ => exact Fin.ext (by show hOff (hSide i) 0 + 1 * (i 0).val = (i 0).val; rw [hs]; show 0 + 1 * (i 0).val = _; omega)
    | ⟨1, _⟩ => exact Fin.ext (by show hOff (hSide i) 1 + 1 * ((i 1).val % 1024) = (i 1).val; rw [hs]; show 1024 + 1 * ((i 1).val % 1024) = _; omega)
  · have hs : hSide i = false := decide_eq_false h
    match a with
    | ⟨0, _⟩ => exact Fin.ext (by show hOff (hSide i) 0 + 1 * (i 0).val = (i 0).val; rw [hs]; show 0 + 1 * (i 0).val = _; omega)
    | ⟨1, _⟩ => exact Fin.ext (by show hOff (hSide i) 1 + 1 * ((i 1).val % 1024) = (i 1).val; rw [hs]; show 0 + 1 * ((i 1).val % 1024) = _; omega)

/-- Every element lies in its half. -/
theorem hRect_mem (i : S1024x2048.Idx) : i ∈ (hRect (hSide i)).set := by
  have h := (hRect (hSide i)).idx_mem (hIx i); rwa [idx_hIx] at h

/-- The two halves make the whole, -/
theorem hRect_union : (hRect false).set ∪ (hRect true).set = Finset.univ := by
  ext i
  simp only [Finset.mem_union, Finset.mem_univ, iff_true]
  have h := hRect_mem i
  cases hs : hSide i <;> rw [hs] at h
  · exact .inl h
  · exact .inr h

/-- and have nothing in common. -/
theorem hRect_disjoint : Disjoint (hRect false).set (hRect true).set :=
  Rect.unit_disjoint (1 : Fin 2) (.inl (by decide))

section Views
variable {c : Thread nD τ} (m : Memref sig .tc .vmem S1024x2048 .bf16)

/-- The elements of half a buffer, -/
theorem half_set (s : Bool) : (half m s).view.set = (hRect s).set.map m.view.emb := View.set_slice _ _

/-- of which two make those of the buffer, -/
theorem half_union : (half m false).view.set ∪ (half m true).view.set = m.view.set := by
  rw [half_set, half_set, ← Finset.map_union, hRect_union]; rfl

/-- without any in common, -/
theorem half_disjoint : Disjoint (half m false).view.set (half m true).view.set := by
  rw [half_set, half_set]; exact (Finset.disjoint_map _).2 hRect_disjoint

/-- and each is among those of the buffer. -/
theorem half_subset (s : Bool) : (half m s).view.set ⊆ m.view.set := View.set_slice_subset _ _

/-- Reading half `s` of a buffer that holds `X`. -/
theorem read_half_rep (s : Bool) (X : Cts F) : (half m s).view.read (Elt F) (m.view.rep X) = hOf X s := by
  exact View.readAt_rep m.view (hRect s).toLoadRect X

/-- Writing half `s`: on that half the buffer holds `X`, once what is written is half `s` of `X`. -/
theorem write_half (s : Bool) (f : m.view.ty.Contents (Elt F)) (w : HCts F) (X : Cts F) (hw : w = hOf X s) :
    ∀ i ∈ (half m s).view.set, (half m s).view.write (Elt F) f w Finset.univ i = m.view.rep X i := by
  intro i hi
  subst hw
  obtain ⟨y, -, rfl⟩ := Finset.mem_map.1 hi
  rw [View.write_emb_of_mem (h := Finset.mem_univ y)]
  exact (View.rep_emb m.view X ((hRect s).emb y)).symm

/-- Writing the whole buffer: it holds what is written. -/
theorem write_full (f : m.view.ty.Contents (Elt F)) (X : Cts F) :
    ∀ i ∈ m.view.set, m.view.write (Elt F) f X Finset.univ i = m.view.rep X i := by
  intro i hi
  obtain ⟨y, -, rfl⟩ := Finset.mem_map.1 hi
  rw [View.write_emb_of_mem (h := Finset.mem_univ y), View.rep_emb]

end Views

/-! ## The contents of a run -/

section Run
variable (m : (ℓ : Loc nD τ sig) → Buf (Elt F) ℓ)

/-- The rows of the left operand a device multiplies for the block `k` steps behind it. -/
def xB (c : Dev nD) (D : Bool) (k : Fin 4) : HCts F := (vX D c k).view.read (Elt F) (m ((vX D c k).view.loc (c.tc : Thread nD τ)))
/-- The columns of the right operand. -/
def wB (c : Dev nD) (D : Bool) (p : Fin 2) (s : Bool) : HCts F := (vW D p s).view.read (Elt F) (m ((vW D p s).view.loc (c.tc : Thread nD τ)))

/-- The device's own part of the block `k` steps behind it. -/
def mmB (D : Bool) (p : Fin 2) (c : Dev nD) (k : Fin 4) : Cts F := glue fun s => mmP (xB m c D k) (wB m c D p s)

/-- The sum of two buffers' contents. -/
def addB (X Y : Cts F) : Cts F := glue fun s => addP (hOf X s) (hOf Y s)

/-- A step number as a step. -/
def k4 (n : Nat) : Fin 4 := ⟨n % 4, Nat.mod_lt _ (by decide)⟩
/-- A pass number as a pass. -/
def p2 (n : Nat) : Fin 2 := ⟨n % 2, Nat.mod_lt _ (by decide)⟩

/-- What a device has accumulated after `k` steps: what its source had before, and its own part. -/
def acc (D : Bool) (p : Fin 2) : Nat → Dev nD → Cts F
  | 0, c => mmB m D p c 0
  | k + 1, c => addB (acc D p k (src D c)) (mmB m D p c (k4 (k + 1)))

/-- The device at which the sum for the block of rows `r` is complete. -/
def own (D : Bool) (r : Fin 4) : Dev nD :=
  match D with | false => ⟨(r.val + 3) % 4, Nat.mod_lt _ (by decide)⟩ | true => ⟨(r.val + 1) % 4, Nat.mod_lt _ (by decide)⟩

/-- The complete sum for the block of rows `r`. -/
def fin (D : Bool) (p : Fin 2) (r : Fin 4) : Cts F := acc m D p 3 (own D r)

/-- What device `c` gathers for the block `k` steps behind it. -/
def gath (D : Bool) (p : Fin 2) (c : Dev nD) (k : Fin 4) : Cts F := fin m D p (ck D c k)

/-- The block of rows that is three steps behind a device is the one whose sum is complete there. -/
theorem own_ck : ∀ (D : Bool) (c : Dev nD), own D (ck D c 3) = c := by decide
/-- A target's first gathered chunk is the sender's own, -/
theorem ck_tgt0 : ∀ (D : Bool) (c : Dev nD), ck D (tgt D c) 0 = ck D c 3 := by decide +kernel
/-- its second the sender's first, -/
theorem ck_tgt1 : ∀ (D : Bool) (c : Dev nD), ck D (tgt D c) 1 = ck D c 0 := by decide +kernel
/-- and its third the sender's second. -/
theorem ck_tgt2 : ∀ (D : Bool) (c : Dev nD), ck D (tgt D c) 2 = ck D c 1 := by decide +kernel
/-- A target's source is the device, -/
theorem src_tgt : ∀ (D : Bool) (c : Dev nD), src D (tgt D c) = c := by decide +kernel
/-- and a source's target too. -/
theorem tgt_src : ∀ (D : Bool) (c : Dev nD), tgt D (src D c) = c := by decide +kernel

/-- The complete sum is where the reduction ends. -/
theorem acc_fin (D : Bool) (p : Fin 2) (c : Dev nD) : acc m D p 3 c = gath m D p c 3 := by
  unfold gath fin; rw [own_ck]
/-- What is gathered is passed on. -/
theorem gath_tgt0 (D : Bool) (p : Fin 2) (c : Dev nD) : gath m D p (tgt D c) 0 = gath m D p c 3 := by unfold gath; rw [ck_tgt0]
@[inherit_doc gath_tgt0] theorem gath_tgt1 (D : Bool) (p : Fin 2) (c : Dev nD) : gath m D p (tgt D c) 1 = gath m D p c 0 := by unfold gath; rw [ck_tgt1]
@[inherit_doc gath_tgt0] theorem gath_tgt2 (D : Bool) (p : Fin 2) (c : Dev nD) : gath m D p (tgt D c) 2 = gath m D p c 1 := by unfold gath; rw [ck_tgt2]

/-! ## The result -/

/-- A tile of a buffer's contents. -/
def tOf {α : Type} (X : S1024x2048.Idx → α) (t : Fin 4) : S256x2048.Idx → α := fun j => X ((tRect t).idx j)

/-- A row of a buffer, within its tile. -/
def tIx (i : S1024x2048.Idx) : S256x2048.Idx
  | ⟨0, _⟩ => ⟨(i 0).val % 256, Nat.mod_lt _ (by decide)⟩
  | ⟨1, _⟩ => ⟨(i 1).val, (i 1).isLt⟩
/-- The tile a row is in. -/
def tSide (i : S1024x2048.Idx) : Fin 4 := ⟨(i 0).val / 256, by have h : (i 0).val < 1024 := (i 0).isLt; omega⟩

/-- The activation of a whole buffer's contents. -/
def actB (X : Cts F) : S1024x2048.Idx → Elt F .f32 := fun i => actP (F := F) (tOf X (tSide i)) (tIx i)

/-- An index of the result, within its block. -/
def bIx (i : S4096x8192.Idx) : S1024x2048.Idx
  | ⟨0, _⟩ => ⟨(i 0).val % 1024, Nat.mod_lt _ (by decide)⟩
  | ⟨1, _⟩ => ⟨(i 1).val % 2048, Nat.mod_lt _ (by decide)⟩
/-- The rows' block of an index, -/
def rowOf (i : S4096x8192.Idx) : Fin 4 := ⟨(i 0).val / 1024, by have h : (i 0).val < 4096 := (i 0).isLt; omega⟩
/-- the direction its columns go, -/
def dirOf (i : S4096x8192.Idx) : Bool := decide (4096 ≤ (i 1).val)
/-- and the pass they go in. -/
def passOf (i : S4096x8192.Idx) : Fin 2 := p2 ((i 1).val / 2048)

/-- What the result holds. -/
def res : S4096x8192.Idx → Elt F .f32 := fun i => actB (fin m (dirOf i) (passOf i) (rowOf i)) (bIx i)

end Run

end Cert.Proof.Ring
-- ==== Proof.Cells.lean ====
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

/-! # The cells of the ring and the order in which they are paid

Each direction has, on every device, semaphores for sends, for receipts and for credits. A semaphore is used in
rounds, one duty a round. The list `evs` names every payment a device makes to another in the order of the program;
a payment's place in it is its level, so that a device waiting on a round owes only later ones. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a direction's semaphore is for: sends of a half, receipts of a half, credits of a half, credits of the work
buffer. -/
inductive Kn where
  | send (s : Bool) | recv (s : Bool) | cred (s : Bool) | credW
deriving DecidableEq

/-- The semaphore of direction `D` for `k`. -/
def semOf (D : Bool) : Kn → SemLoc sig
  | .send s => .dma (sSend D s)
  | .recv s => .dma (sRecv D s)
  | .cred s => .reg (sCred D s)
  | .credW => .reg (sCredW D)

/-- Every purpose. -/
def kns : List Kn := [.send false, .send true, .recv false, .recv true, .cred false, .cred true, .credW]
/-- Every purpose of either direction. -/
def keys : List (Bool × Kn) := kns.map (fun k => (false, k)) ++ kns.map fun k => (true, k)

/-- What a semaphore is for, if it is one of the ring's. -/
def keyOf (l : SemLoc sig) : Option (Bool × Kn) := keys.find? fun x => decide (semOf x.1 x.2 = l)

/-- A direction's semaphore is known as what it is for. -/
theorem keyOf_semOf (D : Bool) (k : Kn) : keyOf (semOf D k) = some (D, k) := by
  cases D <;> rcases k with s | s | s | _ <;> (try cases s) <;> decide +kernel
/-- The barrier's semaphore is none of the ring's. -/
theorem keyOf_bar : keyOf (.reg sBar) = none := by decide +kernel
/-- Nor is the one for reads of the left operand, -/
theorem keyOf_sX : keyOf (.dma sX) = none := by decide +kernel
/-- nor the one for reads of the right operand, -/
theorem keyOf_sY : keyOf (.dma sY) = none := by decide +kernel
/-- nor the one for stores of the result. -/
theorem keyOf_sO : keyOf (.dma sO) = none := by decide +kernel

/-- The cell of device `c`. -/
abbrev cl (c : Dev nD) (D : Bool) (k : Kn) : GSem nD τ sig := ((c.tc : Thread nD τ), semOf D k)
/-- The barrier's cell of device `c`. -/
abbrev clB (c : Dev nD) : GSem nD τ sig := ((c.tc : Thread nD τ), .reg sBar)

/-- The rounds of a cell. -/
def rounds : Kn → Nat
  | .send s => if s then 6 else 12
  | .recv s => if s then 8 else 10
  | .cred _ => 10
  | .credW => 2

/-- The units of a half and of a whole buffer. -/
def NH : Nat := (half (bS false) false).view.dmaCredit
@[inherit_doc NH] def NF : Nat := (bS false).view.dmaCredit

/-- A half has units, -/
theorem NH_pos : 0 < NH := View.dmaCredit_pos _ (by decide)
/-- and so has a whole buffer. -/
theorem NF_pos : 0 < NF := View.dmaCredit_pos _ (by decide)

/-- Each half of a sending buffer has a half's units, -/
theorem credit_halfS (D s : Bool) : (half (bS D) s).view.dmaCredit = NH := by cases D <;> cases s <;> rfl
/-- and so has each half of a receiving buffer. -/
theorem credit_halfR (D s : Bool) : (half (bR D) s).view.dmaCredit = NH := by cases D <;> cases s <;> rfl
/-- A whole sending buffer has a whole buffer's units, -/
theorem credit_S (D : Bool) : (bS D).view.dmaCredit = NF := by cases D <;> rfl
/-- and so has a whole receiving buffer, -/
theorem credit_R (D : Bool) : (bR D).view.dmaCredit = NF := by cases D <;> rfl
/-- and a whole work buffer. -/
theorem credit_W (D : Bool) : (bW D).view.dmaCredit = NF := by cases D <;> rfl

/-- The units of a round. -/
def amt : Kn → Nat → Nat
  | .send s, r => if s then NH else if r % 6 < 3 then NH else NF
  | .recv s, r => if s then (if r % 4 < 3 then NH else NF) else if r % 5 < 3 then NH else NF
  | .cred _, _ => 1
  | .credW, _ => 1

/-- Every round has units. -/
theorem amt_pos (k : Kn) (r : Nat) : 0 < amt k r := by
  have h1 := NH_pos; have h2 := NF_pos
  rcases k with s | s | s | _ <;> simp only [amt] <;> (repeat' split) <;> first | assumption | exact Nat.one_pos

/-! ## Payments -/

/-- A payment to another device: to a neighbour's barrier, or for a round of a cell of direction `D`. -/
inductive Ev where
  | bar (b : Bool) | pay (D : Bool) (k : Kn) (r : Nat)
deriving DecidableEq

/-- Whom a payment goes to: credits go back to the source, copies on to the target. -/
def payee (D : Bool) : Kn → Dev nD → Dev nD
  | .send _, c => c
  | .recv _, c => tgt D c
  | .cred _, c => src D c
  | .credW, c => src D c

/-- The cell a payment goes to, -/
def evCell (c : Dev nD) : Ev → GSem nD τ sig
  | .bar b => clB (if b then rgt c else lft c)
  | .pay D k _ => cl (payee D k c) D k
/-- its round, -/
def evIx : Ev → Nat
  | .bar _ => 0
  | .pay _ _ r => r
/-- and its units. -/
def evAmt : Ev → Nat
  | .bar _ => 1
  | .pay _ k r => amt k r
/-- A payment as units owed. -/
def evTally (c : Dev nD) (e : Ev) : CellTallies nD τ sig Nat := tallyAt (evCell c e) (evIx e) (evAmt e)

/-- The payments of a step of the reduction. -/
def hEv (p h : Nat) : List Ev :=
  [.pay false (.recv false) (5 * p + h), .pay false (.recv true) (4 * p + h),
   .pay true (.recv false) (5 * p + h), .pay true (.recv true) (4 * p + h),
   .pay false (.cred false) (5 * p + h + 1), .pay true (.cred false) (5 * p + h + 1),
   .pay false (.cred true) (5 * p + h + 1), .pay true (.cred true) (5 * p + h + 1)]
/-- The payments of a pass. -/
def pEv (p : Nat) : List Ev :=
  hEv p 0 ++ hEv p 1 ++ hEv p 2 ++
  [.pay false .credW p, .pay true .credW p,
   .pay false (.recv false) (5 * p + 3), .pay true (.recv false) (5 * p + 3),
   .pay false (.recv true) (4 * p + 3), .pay true (.recv true) (4 * p + 3),
   .pay false (.cred false) (5 * p + 4), .pay false (.cred true) (5 * p + 4),
   .pay true (.cred false) (5 * p + 4), .pay true (.cred true) (5 * p + 4),
   .pay false (.recv false) (5 * p + 4), .pay true (.recv false) (5 * p + 4)]
/-- The payments of a device. -/
def evs : List Ev :=
  [.bar false, .bar true, .pay false (.cred false) 0, .pay false (.cred true) 0, .pay true (.cred false) 0, .pay true (.cred true) 0]
  ++ pEv 0 ++ [.pay false (.cred false) 5, .pay false (.cred true) 5, .pay true (.cred false) 5, .pay true (.cred true) 5] ++ pEv 1

/-- What a device still owes once `n` payments are made. -/
def oweFrom (c : Dev nD) (n : Nat) : CellTallies nD τ sig Nat := ((evs.drop n).map (evTally c)).sum

/-- Before a payment a device owes what it owes after it, and the payment. -/
theorem oweFrom_succ (c : Dev nD) (n : Nat) (e : Ev) (h : evs[n]? = some e) :
    oweFrom c n = oweFrom c (n + 1) + evTally c e := by
  obtain ⟨hn, he⟩ := List.getElem?_eq_some_iff.1 h
  unfold oweFrom
  rw [List.drop_eq_getElem_cons hn, he, List.map_cons, List.sum_cons, add_comm]

/-- After its 82 payments a device owes nothing. -/
theorem oweFrom_end (c : Dev nD) : oweFrom c 82 = 0 := by
  unfold oweFrom; rw [List.drop_eq_nil_of_le (by decide)]; rfl

/-- The level of a payment. -/
def evLev (e : Ev) : Nat := match e with | .bar _ => 1 | .pay D k r => evs.idxOf (.pay D k r) + 1
/-- The level of a round of a semaphore. -/
def semLev (l : SemLoc sig) (r : Nat) : Nat :=
  match keyOf l with
  | some (_, .send _) => 0
  | some (D, k) => evLev (.pay D k r)
  | none => if l = .reg sBar then 1 else 0

/-- The rounds of a cell for which something may be owed. -/
def L (g : GSem nD τ sig) : Finset Nat := if g.1.2 = .tc then Finset.range 12 else ∅
/-- The levels. -/
def lv (g : GSem nD τ sig) (r : Nat) : Nat := semLev g.2 r

/-- Nothing is owed on cells of other processors than the TensorCores. -/
theorem L_of_ne (g : GSem nD τ sig) (h : g.1.2 ≠ .tc) : L g = ∅ := if_neg h
/-- On a TensorCore's cell something may be owed for twelve rounds. -/
theorem L_tc (c : Dev nD) (l : SemLoc sig) : L ((c.tc : Thread nD τ), l) = Finset.range 12 := if_pos rfl

/-- What payments owe is owed for one of them. -/
theorem owe_pos {c : Dev nD} {g : GSem nD τ sig} {u : Nat} : ∀ {l : List Ev},
    0 < (l.map (evTally c)).sum g u → ∃ e ∈ l, g = evCell c e ∧ u = evIx e
  | [], h => absurd h (Nat.lt_irrefl 0)
  | e :: l, h => by
    rw [List.map_cons, List.sum_cons, Pi.add_apply, Finsupp.add_apply] at h
    by_cases hl : 0 < (l.map (evTally c)).sum g u
    · obtain ⟨e', he', h'⟩ := owe_pos hl
      exact ⟨e', List.mem_cons_of_mem _ he', h'⟩
    · have h0 : 0 < evTally c e g u := by omega
      unfold evTally at h0
      rw [tallyAt_apply] at h0
      by_cases hh : g = evCell c e ∧ u = evIx e
      · exact ⟨e, List.mem_cons_self, hh⟩
      · rw [if_neg hh] at h0; exact absurd h0 (Nat.lt_irrefl 0)

/-- Every payment is for a round before the twelfth. -/
theorem evs_ix : ∀ e ∈ evs, evIx e < 12 := by decide +kernel
/-- The level of the round that a payment is for is the payment's level. -/
theorem evs_lev : ∀ e ∈ evs, semLev (evCell (0 : Dev nD) e).2 (evIx e) = evLev e := by decide +kernel

/-- Every payment goes to a TensorCore's cell. -/
theorem evCell_tc (c : Dev nD) (e : Ev) : ((evCell c e).1.2 : Proc τ) = .tc := by cases e <;> rfl
/-- The semaphore that a payment goes to is the same on every device. -/
theorem evCell_sem (c d : Dev nD) (e : Ev) : (evCell c e).2 = (evCell d e).2 := by cases e <;> rfl

/-- The level of a payment's cell at its round is the payment's level. -/
theorem lv_evCell (c : Dev nD) {e : Ev} (he : e ∈ evs) : lv (evCell c e) (evIx e) = evLev e := by
  unfold lv; rw [evCell_sem c 0]; exact evs_lev e he

end Cert.Proof.Ring
-- ==== Proof.Schedule.lean ====
module

public import proofs.«01_k».proof.Proof.Cells

/-! # What each round hands over

The schedule of the ring's cells: the duties, units and payload of every round, with the contents of the buffers a
copy lands or returns. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' algebra of the ring, -/
abbrev UB : Type := URounds (GSem nD τ sig) Bool
/-- and the proof's: the launch's rounds, the ring's, and the counters of copies within a device. -/
abbrev UU : Type := UR sig nD τ × (UB × Counters)

local notation "𝕄" => MT nD τ sig ℕ (Elt F) ℕ UU ℕ

/-- The launch's rounds in the machine's algebra. -/
abbrev EP : Emb (UR sig nD τ) (MT nD τ sig ℕ (Elt F) ℕ UU ℕ) := embL
/-- The ring's rounds in the machine's algebra. -/
def EB : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb

omit [FloatOps F] in
instance EB_landsIn : (EB : Emb UB 𝕄).LandsIn (upEmb : UEmb _ 𝕄) := by unfold EB; infer_instance

/-! ## Buffers -/

section Bufs
variable (c : Dev nD) (b : Memref sig .tc .vmem S1024x2048 .bf16)

/-- Half `s` of a buffer, holding that half of `X`, at share `q`. -/
def hp (s : Bool) (q : PosShare TreeShare) (X : Cts F) : sProp 𝕄 :=
  b.view.loc (c.tc : Thread nD τ) ↦[(half b s).view.set]{q} b.view.rep X
/-- A whole buffer holding `X`. -/
def fp (q : PosShare TreeShare) (X : Cts F) : sProp 𝕄 :=
  b.view.loc (c.tc : Thread nD τ) ↦[b.view.set]{q} b.view.rep X
/-- Half `s` of a buffer, holding anything. -/
def hx (s : Bool) : sProp 𝕄 :=
  iprop(∃ f : Buf (Elt F) (b.view.loc (c.tc : Thread nD τ)), b.view.loc (c.tc : Thread nD τ) ↦[(half b s).view.set]{fullShare} f)
/-- A whole buffer holding anything. -/
def fx : sProp 𝕄 :=
  iprop(∃ f : Buf (Elt F) (b.view.loc (c.tc : Thread nD τ)), b.view.loc (c.tc : Thread nD τ) ↦[b.view.set]{fullShare} f)

instance hp_storable (s q) (X : Cts F) : BI.Storable (upEmb : UEmb _ 𝕄) (hp c b s q X) := by unfold hp; infer_instance
instance fp_storable (q) (X : Cts F) : BI.Storable (upEmb : UEmb _ 𝕄) (fp c b q X) := by unfold fp; infer_instance
omit [FloatOps F] in
instance hx_storable (s) : BI.Storable (upEmb : UEmb _ 𝕄) (hx (F := F) c b s) := by unfold hx; infer_instance
omit [FloatOps F] in
instance fx_storable : BI.Storable (upEmb : UEmb _ 𝕄) (fx (F := F) c b) := by unfold fx; infer_instance

/-- A whole buffer is its halves. -/
theorem fp_halves (q : PosShare TreeShare) (X : Cts F) : (fp c b q X : sProp 𝕄) ⊣⊢ iprop(hp c b false q X ∗ hp c b true q X) := by
  unfold fp hp
  rw [← half_union b]
  exact pointsTo_union (half_disjoint b)

/-- Half a buffer with known contents is one with some contents, -/
theorem hp_hx (s : Bool) (X : Cts F) : (hp c b s fullShare X : sProp 𝕄) ⊢ hx c b s := by
  unfold hp hx; iintro H; iexists _; iexact H
/-- and so is a whole one. -/
theorem fp_fx (X : Cts F) : (fp c b fullShare X : sProp 𝕄) ⊢ fx c b := by
  unfold fp fx; iintro H; iexists _; iexact H

omit [FloatOps F] in
/-- A whole buffer of anything splits into halves of anything, -/
theorem fx_split : (fx (F := F) c b : sProp 𝕄) ⊢ iprop(hx c b false ∗ hx c b true) := by
  unfold fx hx
  rw [← half_union b]
  iintro ⟨%f, H⟩
  ihave H := (pointsTo_union (half_disjoint b)).1 $$ H
  icases H with ⟨H1, H2⟩
  isplitl [H1]
  · iexists f; iexact H1
  · iexists f; iexact H2
omit [FloatOps F] in
/-- and two halves of anything are a whole buffer of anything. -/
theorem fx_join : iprop(hx (F := F) c b false ∗ hx c b true) ⊢ (fx c b : sProp 𝕄) := by
  unfold fx hx
  rw [← half_union b]
  iintro ⟨⟨%f, H1⟩, ⟨%g, H2⟩⟩
  ihave H := (pointsTo_join (ℓ := b.view.loc (c.tc : Thread nD τ)) (half_disjoint b)) $$ [H1 H2]
  · isplitl [H1] <;> iassumption
  iexists _; iexact H

/-- A whole buffer at the full share is the two shares of it. -/
theorem fp_share (X : Cts F) : (fp c b fullShare X : sProp 𝕄) ⊣⊢ iprop(fp c b fullShare.left X ∗ fp c b fullShare.right X) := by
  unfold fp; exact pointsTo_share (PosShare.mem_left_op_right fullShare)

end Bufs

/-! ## The schedule -/

omit [FloatOps F] in
/-- Device `c`'s cell for `k` has reached round `r`. -/
abbrev rch (c : Dev nD) (D : Bool) (k : Kn) (r : ℕ) : sProp 𝕄 := reached (EB (F := F)) (cl c D k) r

variable (m : (ℓ : Loc nD τ sig) → Buf (Elt F) ℓ)

/-- What round `r` of device `c`'s cell for `k` hands its owner. -/
def pay (D : Bool) (c : Dev nD) : Kn → ℕ → sProp 𝕄
  | .send false, r =>
    if r % 6 < 3 then hp c (bS D) false fullShare (acc m D (p2 (r / 6)) (r % 6) c)
    else if r % 6 = 3 then fp c (bS D) fullShare.left (gath m D (p2 (r / 6)) c 3)
    else if r % 6 = 4 then fp c (bR D) fullShare.left (gath m D (p2 (r / 6)) c 0)
    else fp c (bW D) fullShare.left (gath m D (p2 (r / 6)) c 1)
  | .send true, r => hp c (bS D) true fullShare (acc m D (p2 (r / 3)) (r % 3) c)
  | .recv false, r =>
    if r % 5 < 3 then iprop(hp c (bR D) false fullShare (acc m D (p2 (r / 5)) (r % 5) (src D c)) ∗ rch (src D c) D (.cred false) (r + 1))
    else iprop(fp c (bR D) fullShare (gath m D (p2 (r / 5)) c (if r % 5 = 3 then 0 else 2))
      ∗ rch (src D c) D (.cred false) (r + 1) ∗ rch (src D c) D (.cred true) (r + 1))
  | .recv true, r =>
    if r % 4 < 3 then iprop(hp c (bR D) true fullShare (acc m D (p2 (r / 4)) (r % 4) (src D c)) ∗ rch (src D c) D (.cred true) (5 * (r / 4) + r % 4 + 1))
    else iprop(fp c (bW D) fullShare (gath m D (p2 (r / 4)) c 1) ∗ rch (src D c) D .credW (r / 4 + 1))
  | .cred false, r => iprop(hx (tgt D c) (bR D) false ∗ rch (tgt D c) D (.recv false) r)
  | .cred true, r => iprop(hx (tgt D c) (bR D) true ∗ if r % 5 < 3 then rch (tgt D c) D (.recv true) (4 * (r / 5) + r % 5) else emp)
  | .credW, r => iprop(fx (tgt D c) (bW D) ∗ rch (tgt D c) D (.recv true) (4 * r + 3))

instance pay_storable (D : Bool) (c : Dev nD) (k : Kn) (r : ℕ) : BI.Storable (upEmb : UEmb _ 𝕄) (pay m D c k r) := by
  rcases k with (_ | _) | (_ | _) | (_ | _) | _ <;> unfold pay <;> (try dsimp only) <;> (repeat' split) <;> infer_instance

/-- The duties of a round. -/
def dut (l : SemLoc sig) (r : ℕ) : Finset Bool :=
  match keyOf l with
  | some (_, k) => if r < rounds k then {false} else ∅
  | none => if l = .reg sBar ∧ r = 0 then Finset.univ else ∅

/-- The ring's schedule. -/
def rd : Rounds.Schedule (GSem nD τ sig) Bool 𝕄 where
  duties g r := if g.1.2 = .tc then dut g.2 r else ∅
  unitless _ := False
  amount g r _ := match keyOf g.2 with | some (_, k) => amt k r | none => 1
  payload g r _ := match keyOf g.2 with | some (D, k) => pay m D g.1.1 k r | none => iprop(emp)
  amount_pos g r _ _ := by
    cases h : keyOf g.2 with
    | none => exact Nat.one_pos
    | some x => exact amt_pos _ _

instance rd_payload_storable (g : GSem nD τ sig) (r : ℕ) (d : Bool) : BI.Storable (upEmb : UEmb _ 𝕄) ((rd m).payload g r d) := by
  show BI.Storable upEmb (match keyOf g.2 with | some (D, k) => pay m D g.1.1 k r | none => iprop(emp))
  split <;> infer_instance

section Rd
variable (c : Dev nD) (D : Bool) (k : Kn) (r : ℕ)

/-- A round of a cell has one duty, -/
theorem duties_cl (h : r < rounds k) : (rd m).duties (cl c D k) r = {false} := by
  show (if (Proc.tc : Proc τ) = .tc then dut (semOf D k) r else ∅) = _
  rw [if_pos rfl]; unfold dut; rw [keyOf_semOf]; exact if_pos h
/-- and past the last round there is none. -/
theorem duties_end (h : rounds k ≤ r) : (rd m).duties (cl c D k) r = ∅ := by
  show (if (Proc.tc : Proc τ) = .tc then dut (semOf D k) r else ∅) = _
  rw [if_pos rfl]; unfold dut; rw [keyOf_semOf]; exact if_neg (by omega)
/-- The duty of a round is among its duties. -/
theorem mem_duties (h : r < rounds k) : false ∈ (rd m).duties (cl c D k) r := by
  rw [duties_cl m c D k r h]; exact Finset.mem_singleton_self _
/-- Its units, -/
theorem amount_cl (d : Bool) : (rd m).amount (cl c D k) r d = amt k r := by
  show (match keyOf (semOf D k) with | some (_, k) => amt k r | none => 1) = _
  rw [keyOf_semOf]
/-- what it hands over, -/
theorem payload_cl (d : Bool) : (rd m).payload (cl c D k) r d = pay m D c k r := by
  show (match keyOf (semOf D k) with | some (D, k) => pay m D c k r | none => iprop(emp)) = _
  rw [keyOf_semOf]
/-- and the units that the round expects. -/
theorem expect_cl (h : r < rounds k) : (rd m).expect (cl c D k) r = amt k r := by
  unfold Schedule.expect Schedule.amountOf; rw [duties_cl m c D k r h, Finset.sum_singleton, amount_cl]
/-- All that a round hands over is its one payload. -/
theorem rest_cl (h : r < rounds k) :
    bigSep ((rd m).duties (cl c D k) r \ ∅) (fun d => (rd m).payload (cl c D k) r d) = pay m D c k r := by
  rw [Finset.sdiff_empty, duties_cl m c D k r h, bigSep_singleton, payload_cl]

/-- The barrier's round has two duties, -/
theorem duties_bar : (rd m).duties (clB c) 0 = Finset.univ := by
  show (if (Proc.tc : Proc τ) = .tc then dut (.reg sBar) 0 else ∅) = _
  rw [if_pos rfl]; unfold dut; rw [keyOf_bar]; exact if_pos ⟨rfl, rfl⟩
/-- there is no further round, -/
theorem duties_bar_end (h : 1 ≤ r) : (rd m).duties (clB c) r = ∅ := by
  show (if (Proc.tc : Proc τ) = .tc then dut (.reg sBar) r else ∅) = _
  rw [if_pos rfl]; unfold dut; rw [keyOf_bar]; exact if_neg (by omega)
/-- each duty has one unit, -/
theorem amount_bar (d : Bool) : (rd m).amount (clB c) r d = 1 := by
  show (match keyOf (.reg sBar) with | some (_, k) => amt k r | none => 1) = _
  rw [keyOf_bar]
/-- hands nothing over, -/
theorem payload_bar (d : Bool) : (rd m).payload (clB c) r d = iprop(emp) := by
  show (match keyOf (.reg sBar) with | some (D, k) => pay m D c k r | none => iprop(emp)) = _
  rw [keyOf_bar]
/-- and the round expects two units. -/
theorem expect_bar : (rd m).expect (clB c) 0 = 2 := by
  unfold Schedule.expect Schedule.amountOf; rw [duties_bar]; simp only [amount_bar]; rfl

end Rd

/-! ## Waiting -/

omit [FloatOps F] in
/-- A device that has made `n` payments may wait on a round of a level below those of all that are left. -/
theorem mayWait (c : Dev nD) (l : SemLoc sig) (r n : ℕ) (hr : r < 12) (h : ∀ e ∈ evs.drop n, semLev l r < evLev e) :
    (levAts L lv : sProp 𝕄) ⊢ MayWait (c.tc : Thread nD τ) l r (oweFrom c n) :=
  MayOwe.of_cut (L := L) (lev := lv) (semLev l r)
    (fun p hp => by rw [Finset.mem_singleton.mp hp, L_tc]; exact Finset.mem_range.2 hr)
    (fun g u hg => by
      obtain ⟨e, he, rfl, rfl⟩ := owe_pos hg
      unfold L; rw [if_pos (evCell_tc c e)]
      exact Finset.mem_range.2 (evs_ix e (List.mem_of_mem_drop he)))
    (fun p hp => by rw [Finset.mem_singleton.mp hp]; exact le_refl _)
    (fun g u hg => by
      obtain ⟨e, he, rfl, rfl⟩ := owe_pos hg
      rw [lv_evCell c (List.mem_of_mem_drop he)]; exact h e he)

end Cert.Proof.Ring
-- ==== Proof.Steps.lean ====
module

public import proofs.«01_k».proof.Proof.Schedule

/-! # One operation at a time

The rules for the operations of the body on the ring's cells: a wait on a round, a credit given, a copy sent. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- No loops or calls are met. -/
abbrev 𝒱₀ : Variants := Variants.none

/-- The program `P` runs on device `c` to `Q`. -/
abbrev run (c : Dev nD) (P : Pg F) (Q : PUnit → sProp 𝕄) : sProp 𝕄 :=
  wp frame (wpE (defs₀ (F := F)) 𝒱₀ (c.tc : Thread nD τ) none) Set.univ P Q

/-! ## The cells by number -/

/-- The number of a cell of the ring. -/
def kix : Bool → Kn → Fin 15
  | false, .send false => 0 | false, .send true => 1 | false, .recv false => 2 | false, .recv true => 3
  | false, .cred false => 4 | false, .cred true => 5 | false, .credW => 6
  | true, .send false => 7 | true, .send true => 8 | true, .recv false => 9 | true, .recv true => 10
  | true, .cred false => 11 | true, .cred true => 12 | true, .credW => 13
/-- The semaphore of a number; the last is the barrier. -/
def ksem : Fin 15 → SemLoc sig
  | 0 => semOf false (.send false) | 1 => semOf false (.send true) | 2 => semOf false (.recv false) | 3 => semOf false (.recv true)
  | 4 => semOf false (.cred false) | 5 => semOf false (.cred true) | 6 => semOf false .credW
  | 7 => semOf true (.send false) | 8 => semOf true (.send true) | 9 => semOf true (.recv false) | 10 => semOf true (.recv true)
  | 11 => semOf true (.cred false) | 12 => semOf true (.cred true) | 13 => semOf true .credW
  | 14 => .reg sBar
/-- The cell of a device and a number. -/
def kcell (x : Dev nD × Fin 15) : GSem nD τ sig := ((x.1.tc : Thread nD τ), ksem x.2)

/-- The numbered cell of a direction's semaphore, -/
theorem kcell_cl (c : Dev nD) (D : Bool) (k : Kn) : kcell (c, kix D k) = cl c D k := by
  cases D <;> rcases k with s | s | s | _ <;> (try cases s) <;> rfl
/-- and of the barrier. -/
theorem kcell_bar (c : Dev nD) : kcell (c, 14) = clB c := rfl

omit [FloatOps F] in
/-- One of a family. -/
theorem big_take {I : Type} [DecidableEq I] [Fintype I] (x : I) (Φ : I → sProp 𝕄) :
    bigSep Finset.univ Φ ⊢ iprop(Φ x ∗ bigSep (Finset.univ.erase x) Φ) := Entails.of_eq (BI.bigSep_erase (Finset.mem_univ x))

/-- No cell has more than twelve rounds. -/
theorem rounds_le (k : Kn) : rounds k ≤ 12 := by rcases k with s | s | s | _ <;> (try cases s) <;> decide

section State
variable (m : (ℓ : Loc nD τ sig) → Buf (Elt F) ℓ) (K : Dev nD × Fin 15 → ℕ)

/-- Every cell follows the schedule, has reached its first round, and the levels are as said. -/
def pers : sProp 𝕄 :=
  iprop((bigSep (Finset.univ : Finset (Dev nD × Fin 15)) fun x => cellInv (EB (F := F)) (rd m) (K x) (kcell x))
    ∗ (bigSep (Finset.univ : Finset (Dev nD × Fin 15)) fun x => reached (EB (F := F)) (kcell x) 0) ∗ levAts L lv)

instance pers_persistent : BI.Persistent (pers m K) := by unfold pers; infer_instance

/-- The shared records hold each cell's invariant, -/
theorem pers_inv (x : Dev nD × Fin 15) : pers m K ⊢ cellInv (EB (F := F)) (rd m) (K x) (kcell x) := by
  unfold pers
  iintro ⟨H, -, -⟩
  ihave H := (big_take x _) $$ H
  icases H with ⟨H, -⟩
  iexact H
/-- that of a direction's semaphore, -/
theorem pers_cell (c : Dev nD) (D : Bool) (k : Kn) : pers m K ⊢ cellInv (EB (F := F)) (rd m) (K (c, kix D k)) (cl c D k) :=
  (pers_inv m K (c, kix D k)).trans (Entails.of_eq (by rw [kcell_cl]))
/-- and that of the barrier; -/
theorem pers_bar (c : Dev nD) : pers m K ⊢ cellInv (EB (F := F)) (rd m) (K (c, 14)) (clB c) := pers_inv m K (c, 14)
/-- that each cell has reached its first round, -/
theorem pers_reached (x : Dev nD × Fin 15) : pers m K ⊢ reached (EB (F := F)) (kcell x) 0 := by
  unfold pers
  iintro ⟨-, H, -⟩
  ihave H := (big_take x _) $$ H
  icases H with ⟨H, -⟩
  iexact H
/-- those of a direction's semaphores among them; -/
theorem pers_rch (c : Dev nD) (D : Bool) (k : Kn) : pers m K ⊢ rch (F := F) c D k 0 :=
  (pers_reached m K (c, kix D k)).trans (Entails.of_eq (by rw [kcell_cl]))
/-- and the levels. -/
theorem pers_lev : pers m K ⊢ (levAts L lv : sProp 𝕄) := by
  unfold pers; iintro ⟨-, -, H⟩; iexact H

end State

/-! ## A device's place in the protocol -/

/-- `n` payments are made. -/
def ow (c : Dev nD) (n : ℕ) : sProp 𝕄 := iprop(∃ W, owes (c.tc : Thread nD τ) (oweFrom c n) W)

/-- The credits for the rounds of a cell from `r` on. -/
def crs (c : Dev nD) (D : Bool) (k : Kn) (r : ℕ) : sProp 𝕄 :=
  bigSep (Finset.Ico r (rounds k)) fun i => cred (tallyAt (cl c D k) i (amt k i))
/-- The duties of the rounds of a cell from `r` on, of device `d`'s cell. -/
def dts (d : Dev nD) (D : Bool) (k : Kn) (r : ℕ) : sProp 𝕄 :=
  bigSep (Finset.Ico r (rounds k)) fun i => dutyTok (EB (F := F)) (cl d D k) i false
/-- Device `c` is at round `r` of its cell. -/
def atR (c : Dev nD) (D : Bool) (k : Kn) (r : ℕ) : sProp 𝕄 :=
  iprop(atPos (EB (F := F)) (cl c D k) r ∅ 0 ∗ rch c D k r)
/-- A cell others pay: the device is at round `r`, with the credits to wait. -/
def ws (c : Dev nD) (D : Bool) (k : Kn) (r : ℕ) : sProp 𝕄 := iprop(atR c D k r ∗ crs c D k r)
/-- A device's duties at the cell of another. -/
def ps (c : Dev nD) (D : Bool) (k : Kn) (r : ℕ) : sProp 𝕄 := dts (payee D k c) D k r
/-- The cell of the device's sends: it is at round `r` and nothing is in flight. -/
def ss (c : Dev nD) (D s : Bool) (r : ℕ) : sProp 𝕄 := iprop(atR c D (.send s) r ∗ dts c D (.send s) r)
/-- The cell of the device's sends, with the copy of round `r` in flight. -/
def sw (c : Dev nD) (D s : Bool) (r : ℕ) : sProp 𝕄 :=
  iprop(atR c D (.send s) r ∗ cred (tallyAt (cl c D (.send s)) r (amt (.send s) r)) ∗ dts c D (.send s) (r + 1))

omit [FloatOps F] in
/-- The first of a range of conjuncts is taken out. -/
theorem ico_pop {r N : ℕ} (h : r < N) (Φ : ℕ → sProp 𝕄) :
    bigSep (Finset.Ico r N) Φ = iprop(Φ r ∗ bigSep (Finset.Ico (r + 1) N) Φ) := by
  rw [BI.bigSep_erase (Finset.mem_Ico.2 ⟨le_refl r, h⟩)]
  congr 2
  ext i; simp only [Finset.mem_erase, Finset.mem_Ico]; omega

omit [FloatOps F] in
/-- The credit of a cell's next round is taken out, -/
theorem crs_pop (c : Dev nD) (D : Bool) (k : Kn) {r : ℕ} (h : r < rounds k) :
    (crs (F := F) c D k r) = iprop(cred (tallyAt (cl c D k) r (amt k r)) ∗ crs c D k (r + 1)) := ico_pop h _
omit [FloatOps F] in
/-- and the token of its next round. -/
theorem dts_pop (c : Dev nD) (D : Bool) (k : Kn) {r : ℕ} (h : r < rounds k) :
    (dts (F := F) c D k r) = iprop(dutyTok (EB (F := F)) (cl c D k) r false ∗ dts c D k (r + 1)) := ico_pop h _

section Ops
variable (m : (ℓ : Loc nD τ sig) → Buf (Elt F) ℓ) (K : Dev nD × Fin 15 → ℕ) (c : Dev nD)

/-- A wait for round `r` of a cell, with the credit at hand. -/
theorem wp_wait0 (D : Bool) (k : Kn) {r n : ℕ} {w : TpuEff nD τ sig (Elt F) Λ₀ .tc PUnit} {k' : ℕ}
    (hw : ∀ K' : PUnit → sProp 𝕄, wpE (defs₀ (F := F)) 𝒱₀ (c.tc : Thread nD τ) none Set.univ w K' = waitSpec (c.tc : Thread nD τ) Set.univ (semOf D k) k' K')
    (hk : k' = amt k r) (hr : r < rounds k) (hl : ∀ e ∈ evs.drop n, semLev (semOf D k) r < evLev e) {kt : PUnit → Pg F} {Q : PUnit → sProp 𝕄} :
    iprop(pers m K ∗ ow c n ∗ atR c D k r ∗ cred (tallyAt (cl c D k) r (amt k r)))
      ⊢ iprop((iprop(ow c n ∗ atR c D k (r + 1) ∗ pay m D c k r) -∗ run c (kt ⟨⟩) Q) -∗ run c (.op w kt) Q) := by
  subst hk
  have hr12 : r < 12 := lt_of_lt_of_le hr (rounds_le k)
  unfold ow atR
  iintro ⟨#HP, ⟨%W, HO⟩, ⟨Hat, -⟩, Hc⟩ Hk
  iapply (Rounds.wp_wait_rest_token 𝒱₀ (EB (F := F)) (rd m) (c.tc : Thread nD τ) none (κ := K (c, kix D k))
      hw (Set.mem_univ _) r (O := oweFrom c n) (W := W) (R := r) (m := 0) (T := ∅)
      (by rw [Nat.zero_add, expect_cl m c D k r hr])) $$ [Hc HO Hat]
  · isplitr; · iapply (pers_cell m K c D k); iexact HP
    isplitl [Hc]; · iexact Hc
    isplitl [HO]; · iexact HO
    isplitr; · iapply (mayWait c (semOf D k) r n hr12 hl); iapply (pers_lev m K); iexact HP
    iexact Hat
  iintro ⟨HO, Hat, Hre, Hpay⟩
  ihave Hpay := (Entails.of_eq (rest_cl m c D k r hr)) $$ Hpay
  iapply Hk
  isplitl [HO]; · iexists _; iexact HO
  isplitr [Hpay]
  · isplitl [Hat]; · iexact Hat
    iexact Hre
  iexact Hpay

/-- A wait for round `r` of a cell others pay. -/
theorem wp_waitW (D : Bool) (k : Kn) {r n : ℕ} {w : TpuEff nD τ sig (Elt F) Λ₀ .tc PUnit} {k' : ℕ}
    (hw : ∀ K' : PUnit → sProp 𝕄, wpE (defs₀ (F := F)) 𝒱₀ (c.tc : Thread nD τ) none Set.univ w K' = waitSpec (c.tc : Thread nD τ) Set.univ (semOf D k) k' K')
    (hk : k' = amt k r) (hr : r < rounds k) (hl : ∀ e ∈ evs.drop n, semLev (semOf D k) r < evLev e) {kt : PUnit → Pg F} {Q : PUnit → sProp 𝕄} :
    iprop(pers m K ∗ ow c n ∗ ws c D k r)
      ⊢ iprop((iprop(ow c n ∗ ws c D k (r + 1) ∗ pay m D c k r) -∗ run c (kt ⟨⟩) Q) -∗ run c (.op w kt) Q) := by
  unfold ws
  rw [crs_pop c D k hr]
  iintro ⟨#HP, HO, Hat, Hc, Hcs⟩ Hk
  iapply (wp_wait0 m K c D k hw hk hr hl) $$ [HO Hat Hc]
  · isplitr; · iexact HP
    isplitl [HO]; · iexact HO
    isplitl [Hat]; · iexact Hat
    iexact Hc
  iintro ⟨HO, Hat, Hpay⟩
  iapply Hk
  isplitl [HO]; · iexact HO
  isplitr [Hpay]
  · isplitl [Hat]; · iexact Hat
    iexact Hcs
  iexact Hpay

/-- A wait for the device's own copy of round `r`. -/
theorem wp_waitS (D s : Bool) {r n : ℕ} {w : TpuEff nD τ sig (Elt F) Λ₀ .tc PUnit} {k' : ℕ}
    (hw : ∀ K' : PUnit → sProp 𝕄, wpE (defs₀ (F := F)) 𝒱₀ (c.tc : Thread nD τ) none Set.univ w K' = waitSpec (c.tc : Thread nD τ) Set.univ (semOf D (.send s)) k' K')
    (hk : k' = amt (.send s) r) (hr : r < rounds (.send s)) (hl : ∀ e ∈ evs.drop n, semLev (semOf D (.send s)) r < evLev e) {kt : PUnit → Pg F} {Q : PUnit → sProp 𝕄} :
    iprop(pers m K ∗ ow c n ∗ sw c D s r)
      ⊢ iprop((iprop(ow c n ∗ ss c D s (r + 1) ∗ pay m D c (.send s) r) -∗ run c (kt ⟨⟩) Q) -∗ run c (.op w kt) Q) := by
  unfold sw ss
  iintro ⟨#HP, HO, Hat, Hc, Hcs⟩ Hk
  iapply (wp_wait0 m K c D (.send s) hw hk hr hl) $$ [HO Hat Hc]
  · isplitr; · iexact HP
    isplitl [HO]; · iexact HO
    isplitl [Hat]; · iexact Hat
    iexact Hc
  iintro ⟨HO, Hat, Hpay⟩
  iapply Hk
  isplitl [HO]; · iexact HO
  isplitr [Hpay]
  · isplitl [Hat]; · iexact Hat
    iexact Hcs
  iexact Hpay

/-- A credit given. -/
theorem wp_give (D : Bool) (k : Kn) {r n : ℕ} {q : Sem sig} (hq : semOf D k = .reg q) (ha : amt k r = 1)
    (hr : r < rounds k) (he : evs[n]? = some (.pay D k r)) {P : Pg F} {Q : PUnit → sProp 𝕄} :
    iprop(pers m K ∗ ow c n ∗ ps c D k r ∗ rch (payee D k c) D k r ∗ pay m D (payee D k c) k r)
      ⊢ iprop((iprop(ow c (n + 1) ∗ ps c D k (r + 1)) -∗ run c P Q) -∗ run c (giveC (payee D k c) q P) Q) := by
  unfold ow ps giveC rch
  rw [dts_pop _ D k hr]
  iintro ⟨#HP, ⟨%W, HO⟩, ⟨Ht, Hts⟩, Hr, Hp⟩ Hk
  rw [oweFrom_succ c n _ he]
  rw [show ((1#32 : BitVec 32).toInt) = ((1 : ℕ) : ℤ) from by decide]
  have hcell : cl (payee D k c) D k = (((payee D k c).tc : Thread nD τ), SemLoc.reg q) := by unfold cl; rw [hq]
  have htl : evTally c (.pay D k r) = tallyAt (((payee D k c).tc : Thread nD τ), SemLoc.reg q) r 1 := by
    unfold evTally evCell evIx evAmt; dsimp only; rw [hcell, ha]
  rw [htl]
  iapply (Rounds.wp_signal 𝒱₀ (EB (F := F)) (rd m) (c.tc : Thread nD τ) none (dst := ((payee D k c).tc : Thread nD τ)) (sem := q)
      (r := r) (d := false) (k' := 1) (κ := K (payee D k c, kix D k))
      (by rw [← hcell]; exact mem_duties m _ D k r hr) (by rw [← hcell, amount_cl, ha]) r (oweFrom c (n + 1)) rfl) $$ [HO Ht Hr Hp]
  · rw [← hcell, payload_cl]
    isplitr; · iapply (pers_cell m K (payee D k c) D k); iexact HP
    isplitl [HO]; · iexact HO
    isplitl [Ht]; · iexact Ht
    isplitl [Hp]; · iexact Hp
    iexact Hr
  iintro HO
  iapply Hk
  isplitl [HO]; · iexists _; iexact HO
  iexact Hts

end Ops

end Cert.Proof.Ring
-- ==== Proof.Sends.lean ====
module

public import proofs.«01_k».proof.Proof.Steps

/-! # Copies between devices

What each round's payload is at a pass and a step, and the rules for the copies that go from one device to the next:
a half of the accumulator during the reduction, a whole buffer during the gather. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Rounds of a pass -/

/-- The round of the sends of half `s` at step `h` of pass `p`. -/
def rS (s : Bool) (p : Fin 2) (h : ℕ) : ℕ := match s with | false => 6 * p.val + h | true => 3 * p.val + h
/-- The round of the receipts of half `s`. -/
def rR (s : Bool) (p : Fin 2) (h : ℕ) : ℕ := match s with | false => 5 * p.val + h | true => 4 * p.val + h
/-- The round of the credits. -/
abbrev rC (p : Fin 2) (h : ℕ) : ℕ := 5 * p.val + h

/-- A round's number tells its pass, -/
theorem p2_div {a h : ℕ} (p : Fin 2) (hh : h < a) : p2 ((a * p.val + h) / a) = p := by
  have hd : (a * p.val + h) / a = p.val := by
    rw [Nat.mul_add_div (by omega), Nat.div_eq_of_lt hh, Nat.add_zero]
  rw [hd]; exact Fin.ext (Nat.mod_eq_of_lt p.isLt)
/-- its step, -/
theorem mod_step {a h : ℕ} (p : Fin 2) (hh : h < a) : (a * p.val + h) % a = h := by
  rw [Nat.mul_add_mod, Nat.mod_eq_of_lt hh]
/-- and its pass as a number. -/
theorem div_step {a h : ℕ} (p : Fin 2) (hh : h < a) : (a * p.val + h) / a = p.val := by
  rw [Nat.mul_add_div (by omega), Nat.div_eq_of_lt hh, Nat.add_zero]

/-- A send of a half is in one of its cell's rounds, -/
theorem rS_lt (s : Bool) (p : Fin 2) {h : ℕ} (hh : h < 3) : rS s p h < rounds (.send s) := by
  have := p.isLt; cases s <;> simp only [rS, rounds] <;> simp <;> omega
/-- a receipt is, -/
theorem rR_lt (s : Bool) (p : Fin 2) {h : ℕ} (hh : h < 4) : rR s p h < rounds (.recv s) := by
  have := p.isLt; cases s <;> simp only [rR, rounds] <;> simp <;> omega
/-- and a credit is. -/
theorem rC_lt (s : Bool) (p : Fin 2) {h : ℕ} (hh : h < 5) : rC p h < rounds (.cred s) := by
  have := p.isLt; simp only [rC, rounds]; omega

/-- A send of a half has a half's units, -/
theorem amt_sendH (s : Bool) (p : Fin 2) {h : ℕ} (hh : h < 3) : amt (.send s) (rS s p h) = NH := by
  cases s
  · show (if (6 * p.val + h) % 6 < 3 then NH else NF) = NH
    rw [mod_step p (by omega), if_pos hh]
  · rfl
/-- and so has its receipt. -/
theorem amt_recvH (s : Bool) (p : Fin 2) {h : ℕ} (hh : h < 3) : amt (.recv s) (rR s p h) = NH := by
  cases s
  · show (if (5 * p.val + h) % 5 < 3 then NH else NF) = NH
    rw [mod_step p (by omega), if_pos hh]
  · show (if (4 * p.val + h) % 4 < 3 then NH else NF) = NH
    rw [mod_step p (by omega), if_pos hh]
/-- A send of a whole buffer has a whole buffer's units, -/
theorem amt_sendF (p : Fin 2) {h : ℕ} (hh : 3 ≤ h) (hh' : h < 6) : amt (.send false) (rS false p h) = NF := by
  show (if (6 * p.val + h) % 6 < 3 then NH else NF) = NF
  rw [mod_step p (by omega), if_neg (by omega)]
/-- and so has its receipt, -/
theorem amt_recvF (p : Fin 2) {h : ℕ} (hh : 3 ≤ h) (hh' : h < 5) : amt (.recv false) (rR false p h) = NF := by
  show (if (5 * p.val + h) % 5 < 3 then NH else NF) = NF
  rw [mod_step p (by omega), if_neg (by omega)]
/-- and a receipt in the work buffer. -/
theorem amt_recvW (p : Fin 2) : amt (.recv true) (rR true p 3) = NF := by
  show (if (4 * p.val + 3) % 4 < 3 then NH else NF) = NF
  rw [mod_step p (by omega), if_neg (by omega)]

/-! ## Payloads of a pass -/

section Pay
variable (m : (ℓ : Loc nD τ sig) → Buf (Elt F) ℓ) (D : Bool) (c : Dev nD) (p : Fin 2)

/-- A send of a half gives the half back. -/
theorem pay_sendH (s : Bool) {h : ℕ} (hh : h < 3) :
    pay m D c (.send s) (rS s p h) = hp c (bS D) s fullShare (acc m D p h c) := by
  cases s
  · show pay m D c (.send false) (6 * p.val + h) = _
    simp only [pay]; rw [mod_step p (by omega), p2_div p (by omega), if_pos hh]
  · show pay m D c (.send true) (3 * p.val + h) = _
    simp only [pay]; rw [mod_step p (by omega), p2_div p (by omega)]
/-- A receipt of a half hands over the source's partial sum, and that the source's next credit may be given. -/
theorem pay_recvH (s : Bool) {h : ℕ} (hh : h < 3) :
    pay m D c (.recv s) (rR s p h)
      = iprop(hp c (bR D) s fullShare (acc m D p h (src D c)) ∗ rch (src D c) D (.cred s) (rC p h + 1)) := by
  cases s
  · show pay m D c (.recv false) (5 * p.val + h) = _
    simp only [pay]; rw [mod_step p (by omega), p2_div p (by omega), if_pos hh]
  · show pay m D c (.recv true) (4 * p.val + h) = _
    simp only [pay]; rw [mod_step p (by omega), p2_div p (by omega), div_step p (by omega), if_pos hh]
/-- A credit of a half hands over the target's half, and that its receipt's round is reached. -/
theorem pay_credH (s : Bool) {h : ℕ} (hh : h < 3) :
    pay m D c (.cred s) (rC p h) = iprop(hx (tgt D c) (bR D) s ∗ rch (tgt D c) D (.recv s) (rR s p h)) := by
  cases s
  · rfl
  · show pay m D c (.cred true) (5 * p.val + h) = _
    simp only [pay]; rw [mod_step p (by omega), div_step p (by omega), if_pos hh]; rfl
/-- A credit of the left half, in any round, -/
theorem pay_credA (r : ℕ) : pay m D c (.cred false) r = iprop(hx (tgt D c) (bR D) false ∗ rch (tgt D c) D (.recv false) r) := rfl
/-- and one of the right half while whole buffers are sent. -/
theorem pay_credB {h : ℕ} (hh : 3 ≤ h) (hh' : h < 5) : pay m D c (.cred true) (rC p h) = iprop(hx (tgt D c) (bR D) true ∗ emp) := by
  show pay m D c (.cred true) (5 * p.val + h) = _
  simp only [pay]; rw [mod_step p (by omega), if_neg (by omega)]
/-- A credit of the work buffer hands over the target's, and that its receipt's round is reached. -/
theorem pay_credW (r : ℕ) : pay m D c .credW r = iprop(fx (tgt D c) (bW D) ∗ rch (tgt D c) D (.recv true) (4 * r + 3)) := rfl

/-- The first gathering send gives back a share of the sending buffer, -/
theorem pay_send3 : pay m D c (.send false) (rS false p 3) = fp c (bS D) fullShare.left (gath m D p c 3) := by
  show pay m D c (.send false) (6 * p.val + 3) = _
  simp only [pay]; rw [mod_step p (by omega), p2_div p (by omega)]; rfl
/-- the second one of the receiving buffer, -/
theorem pay_send4 : pay m D c (.send false) (rS false p 4) = fp c (bR D) fullShare.left (gath m D p c 0) := by
  show pay m D c (.send false) (6 * p.val + 4) = _
  simp only [pay]; rw [mod_step p (by omega), p2_div p (by omega)]; rfl
/-- and the third one of the work buffer. -/
theorem pay_send5 : pay m D c (.send false) (rS false p 5) = fp c (bW D) fullShare.left (gath m D p c 1) := by
  show pay m D c (.send false) (6 * p.val + 5) = _
  simp only [pay]; rw [mod_step p (by omega), p2_div p (by omega)]; rfl
/-- The first gathering receipt hands over the source's own chunk in the receiving buffer, -/
theorem pay_recv3 : pay m D c (.recv false) (rR false p 3)
    = iprop(fp c (bR D) fullShare (gath m D p c 0) ∗ rch (src D c) D (.cred false) (rC p 3 + 1) ∗ rch (src D c) D (.cred true) (rC p 3 + 1)) := by
  show pay m D c (.recv false) (5 * p.val + 3) = _
  simp only [pay]; rw [mod_step p (by omega), p2_div p (by omega)]; rfl
/-- the third the source's second, -/
theorem pay_recv4 : pay m D c (.recv false) (rR false p 4)
    = iprop(fp c (bR D) fullShare (gath m D p c 2) ∗ rch (src D c) D (.cred false) (rC p 4 + 1) ∗ rch (src D c) D (.cred true) (rC p 4 + 1)) := by
  show pay m D c (.recv false) (5 * p.val + 4) = _
  simp only [pay]; rw [mod_step p (by omega), p2_div p (by omega)]; rfl
/-- and the second, in the work buffer, the source's first. -/
theorem pay_recvW : pay m D c (.recv true) (rR true p 3)
    = iprop(fp c (bW D) fullShare (gath m D p c 1) ∗ rch (src D c) D .credW (p.val + 1)) := by
  show pay m D c (.recv true) (4 * p.val + 3) = _
  simp only [pay]; rw [mod_step p (by omega), p2_div p (by omega), div_step p (by omega)]; rfl

end Pay

/-! ## The rules -/

section Ops
variable (m : (ℓ : Loc nD τ sig) → Buf (Elt F) ℓ) (K : Dev nD × Fin 15 → ℕ) (c : Dev nD)

/-- A copy to the target, paying a round of the device's own sends and a round of the target's receipts. -/
theorem wp_sendG (D s₁ s₂ : Bool) {r₁ r₂ n N : ℕ} {Sh : Shape} {b b' : Memref sig .tc .vmem Sh .bf16}
    {hsc : b'.view.ref.isScScratch = false} {hsrc : b.view.WordExact} {hdst : b'.view.WordExact}
    {hsem : DmaTarget.Typed .vmem (.dma (sRecv D s₂)) (.remote (Dev.tc (tgt D c) : Thread nD τ) b' (.dma (sSend D s₁)) hsc)}
    {q : PosShare TreeShare} {fs : Buf (Elt F) (b.view.loc (c.tc : Thread nD τ))} {fd : Buf (Elt F) (b'.view.loc ((tgt D c).tc : Thread nD τ))}
    {Fr : sProp 𝕄} (hN : b'.view.dmaCredit = N) (h1 : amt (.send s₁) r₁ = N) (h2 : amt (.recv s₂) r₂ = N)
    (hr1 : r₁ < rounds (.send s₁)) (hr2 : r₂ < rounds (.recv s₂)) (he : evs[n]? = some (.pay D (.recv s₂) r₂))
    (hp1 : (b.view.loc (c.tc : Thread nD τ) ↦[b.view.set]{q} fs) ⊢ pay m D c (.send s₁) r₁)
    (hp2 : iprop((b'.view.loc ((tgt D c).tc : Thread nD τ) ↦[b'.view.set]{fullShare} (b'.view.write (Elt F) fd (b.view.read (Elt F) fs) Finset.univ)) ∗ Fr)
      ⊢ pay m D (tgt D c) (.recv s₂) r₂) {P : Pg F} {Q : PUnit → sProp 𝕄} :
    iprop(pers m K ∗ ow c n ∗ (b.view.loc (c.tc : Thread nD τ) ↦[b.view.set]{q} fs)
        ∗ ((b'.view.loc ((tgt D c).tc : Thread nD τ) ↦[b'.view.set]{fullShare} fd) ∗ Fr)
        ∗ ss c D s₁ r₁ ∗ ps c D (.recv s₂) r₂ ∗ rch (tgt D c) D (.recv s₂) r₂)
      ⊢ iprop((iprop(ow c (n + 1) ∗ sw c D s₁ r₁ ∗ ps c D (.recv s₂) (r₂ + 1)) -∗ run c P Q)
          -∗ run c (.op (.enqueueDma b (.remote (Dev.tc (tgt D c)) b' (.dma (sSend D s₁)) hsc) (.dma (sRecv D s₂)) hsrc hdst hsem) fun _ => P) Q) := by
  unfold ow ps ss sw atR rch
  rw [dts_pop _ D _ hr1, dts_pop _ D _ hr2, oweFrom_succ c n _ he]
  iintro ⟨#HP, ⟨%W, HO⟩, Hs, Hd, ⟨⟨Hat, #Hr1⟩, Ht1, Hts1⟩, ⟨Ht2, Hts2⟩, Hr2⟩ Hk
  iapply (Rounds.wp_send_pointsTo_with 𝒱₀ (EB (F := F)) (rd m) (c.tc : Thread nD τ) none (c' := ((tgt D c).tc : Thread nD τ))
      (κ₁ := K (c, kix D (.send s₁))) (κ₂ := K (tgt D c, kix D (.recv s₂))) (r₁ := r₁) (r₂ := r₂) (d₁ := false) (d₂ := false)
      (fd := fd) (F := Fr) (sS := .dma (sSend D s₁)) (sem := .dma (sRecv D s₂))
      (mem_duties m c D (.send s₁) r₁ hr1) (mem_duties m (tgt D c) D (.recv s₂) r₂ hr2) r₂ r₁ N hN
      ((amount_cl m c D (.send s₁) r₁ false).trans h1) ((amount_cl m (tgt D c) D (.recv s₂) r₂ false).trans h2)
      (oweFrom c (n + 1)) (by rw [← h2]) (W := W)
      (hp1.trans (Entails.of_eq (payload_cl m c D (.send s₁) r₁ false).symm))
      (hp2.trans (Entails.of_eq (payload_cl m (tgt D c) D (.recv s₂) r₂ false).symm))) $$ [HO Hs Hd Ht1 Ht2 Hr2]
  · isplitr; · iapply (pers_cell m K c D (.send s₁)); iexact HP
    isplitr; · iapply (pers_cell m K (tgt D c) D (.recv s₂)); iexact HP
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists _; iexact HO
  isplitr [Hts2]
  · isplitl [Hat]
    · isplitl [Hat]; · iexact Hat
      iexact Hr1
    isplitl [Hc]; · rw [h1]; iexact Hc
    iexact Hts1
  iexact Hts2

end Ops

end Cert.Proof.Ring
-- ==== Proof.Reduce.lean ====
module

public import proofs.«01_k».proof.Proof.Sends

/-! # The reduction's phases

Sending a half of the accumulator on, and adding the half received to the device's own part. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Every payment's level is above zero. -/
theorem evLev_pos (e : Ev) : 0 < evLev e := by
  cases e
  · exact Nat.one_pos
  · exact Nat.succ_pos _
/-- The device's own copies are waited for below everything. -/
theorem send_lev (D s : Bool) (r n : ℕ) : ∀ e ∈ evs.drop n, semLev (semOf D (.send s)) r < evLev e := by
  intro e _
  have h : semLev (semOf D (.send s)) r = 0 := by unfold semLev; rw [keyOf_semOf]
  rw [h]; exact evLev_pos e

/-- The word of a one is one. -/
theorem one_word : (1#32 : BitVec 32).toInt = ((1 : ℕ) : ℤ) := by decide

section Phases
variable (m : (ℓ : Loc nD τ sig) → Buf (Elt F) ℓ) (K : Dev nD × Fin 15 → ℕ) (c : Dev nD)

/-- A wait on a credit of the receive buffer. -/
theorem wp_waitCred (D s : Bool) {r n : ℕ} (hr : r < rounds (.cred s))
    (hl : ∀ e ∈ evs.drop n, semLev (semOf D (.cred s)) r < evLev e) {P : Pg F} {Q : PUnit → sProp 𝕄} :
    iprop(pers m K ∗ ow c n ∗ ws c D (.cred s) r)
      ⊢ iprop((iprop(ow c n ∗ ws c D (.cred s) (r + 1) ∗ pay m D c (.cred s) r) -∗ run c P Q) -∗ run c (waitC (sCred D s) 1#32 P) Q) := by
  unfold waitC
  rw [one_word]
  exact wp_waitW m K c D (.cred s) (kt := fun _ => P) (fun K' => wpE_semWait_eq 𝒱₀ (c.tc : Thread nD τ) none Set.univ K') rfl hr hl

/-- A wait on a credit of the work buffer. -/
theorem wp_waitCredW (D : Bool) {r n : ℕ} (hr : r < rounds .credW)
    (hl : ∀ e ∈ evs.drop n, semLev (semOf D .credW) r < evLev e) {P : Pg F} {Q : PUnit → sProp 𝕄} :
    iprop(pers m K ∗ ow c n ∗ ws c D .credW r)
      ⊢ iprop((iprop(ow c n ∗ ws c D .credW (r + 1) ∗ pay m D c .credW r) -∗ run c P Q) -∗ run c (waitC (sCredW D) 1#32 P) Q) := by
  unfold waitC
  rw [one_word]
  exact wp_waitW m K c D .credW (kt := fun _ => P) (fun K' => wpE_semWait_eq 𝒱₀ (c.tc : Thread nD τ) none Set.univ K') rfl hr hl

/-- What a device holds before it sends half `s` at step `h` of pass `p`. -/
def preH (D s : Bool) (p : Fin 2) (h : ℕ) : sProp 𝕄 :=
  iprop(hp c (bS D) s fullShare (acc m D p h c) ∗ ws c D (.cred s) (rC p h) ∗ ss c D s (rS s p h) ∗ ps c D (.recv s) (rR s p h))
/-- What it holds after. -/
def postH (D s : Bool) (p : Fin 2) (h : ℕ) : sProp 𝕄 :=
  iprop(ws c D (.cred s) (rC p h + 1) ∗ sw c D s (rS s p h) ∗ ps c D (.recv s) (rR s p h + 1))

/-- Half `s` of the accumulator goes to the target. -/
theorem wp_sendH (D s : Bool) (p : Fin 2) {h n : ℕ} (hh : h < 3)
    (hl : ∀ e ∈ evs.drop n, semLev (semOf D (.cred s)) (rC p h) < evLev e)
    (he : evs[n]? = some (.pay D (.recv s) (rR s p h))) {P : Pg F} {Q : PUnit → sProp 𝕄} :
    iprop(pers m K ∗ ow c n ∗ preH m c D s p h)
      ⊢ iprop((iprop(ow c (n + 1) ∗ postH c D s p h) -∗ run c P Q) -∗ run c (sendH D s c P) Q) := by
  unfold sendH preH postH
  iintro ⟨#HP, HO, Hb, Hw, Hs, Ht⟩ Hk
  iapply (wp_waitCred m K c D s (rC_lt s p (by omega)) hl) $$ [HO Hw]
  · isplitr; · iexact HP
    isplitl [HO]; · iexact HO
    iexact Hw
  rw [pay_credH m D c p s hh]
  unfold hx
  iintro ⟨HO, Hw, ⟨%fd, Hd⟩, Hr⟩
  unfold ws atR
  icases Hw with ⟨⟨Hat, #Hre⟩, Hcs⟩
  iapply (wp_sendG m K c D s s (Sh := S1024x1024) (b := half (bS D) s) (b' := half (bR D) s) (q := fullShare)
      (fs := (bS D).view.rep (acc m D p h c)) (fd := fd) (Fr := rch c D (.cred s) (rC p h + 1))
      (credit_halfR D s) (amt_sendH s p hh) (amt_recvH s p hh) (rS_lt s p hh) (rR_lt s p (by omega)) he
      (Entails.of_eq (pay_sendH m D c p s hh).symm)
      (by
        rw [pay_recvH m D (tgt D c) p s hh, src_tgt]
        refine sep_mono_left (Entails.of_eq ?_)
        exact pointsTo_congr (write_half (bR D) s fd _ _ (read_half_rep (bS D) s _)))) $$ [HO Hb Hd Hs Ht Hr]
  · isplitr; · iexact HP
    isplitl [HO]; · iexact HO
    isplitl [Hb]; · unfold hp; iexact Hb
    isplitl [Hd]
    · isplitl [Hd]; · iexact Hd
      iexact Hre
    isplitl [Hs]; · iexact Hs
    isplitl [Ht]; · iexact Ht
    iexact Hr
  iintro ⟨HO, Hs, Ht⟩
  iapply Hk
  isplitl [HO]; · iexact HO
  isplitl [Hat Hcs]
  · isplitl [Hat]
    · isplitl [Hat]; · iexact Hat
      iexact Hre
    iexact Hcs
  isplitl [Hs]; · iexact Hs
  iexact Ht

/-- The credit given once half `s` of step `h` is added. -/
theorem pay_back (D s : Bool) (p : Fin 2) {h : ℕ} (hh : h < 3) :
    iprop(hx (F := F) c (bR D) s ∗ rch c D (.recv s) (rR s p h + 1)) ⊢ pay m D (src D c) (.cred s) (rC p h + 1) := by
  by_cases h2 : h + 1 < 3
  · have := pay_credH m D (src D c) p s h2
    rw [show rC p h + 1 = rC p (h + 1) from rfl, this, tgt_src]
    cases s <;> exact .rfl
  · cases s
    · rw [pay_credA, tgt_src]; exact .rfl
    · rw [show rC p h + 1 = rC p (h + 1) from rfl, pay_credB m D (src D c) p (by omega) (by omega), tgt_src]
      iintro ⟨H, -⟩
      isplitl [H]; · iexact H
      iempintro

/-- A credit's semaphore is a regular one. -/
theorem cred_reg (D s : Bool) : semOf D (.cred s) = .reg (sCred D s) := rfl

/-- What a device holds before it adds what it received of half `s`. -/
def preA (D s : Bool) (p : Fin 2) (h : ℕ) : sProp 𝕄 :=
  iprop(ws c D (.recv s) (rR s p h) ∗ sw c D s (rS s p h) ∗ ps c D (.cred s) (rC p h + 1))
/-- What it holds after. -/
def postA (D s : Bool) (p : Fin 2) (h : ℕ) : sProp 𝕄 :=
  iprop(hp c (bS D) s fullShare (acc m D p (h + 1) c) ∗ ws c D (.recv s) (rR s p h + 1) ∗ ss c D s (rS s p h + 1)
    ∗ ps c D (.cred s) (rC p h + 2))

/-- The elements that a read of half a buffer touches. -/
theorem setOn_half (b : Memref sig .tc .vmem S1024x2048 .bf16) (s : Bool) : b.view.setOn (hRect s).toLoadRect.set = (half b s).view.set :=
  (half_set b s).symm

/-- Half `s` arrives, and the device's own part is added to it. -/
theorem wp_addH (D s : Bool) (p : Fin 2) {h n : ℕ} (hh : h < 3)
    (hl : ∀ e ∈ evs.drop n, semLev (semOf D (.recv s)) (rR s p h) < evLev e)
    (he : evs[n]? = some (.pay D (.cred s) (rC p h + 1))) {P : Pg F} {Q : PUnit → sProp 𝕄} :
    iprop(pers m K ∗ ow c n ∗ preA c D s p h ∗ fp c (bW D) fullShare (mmB m D p c (k4 (h + 1))))
      ⊢ iprop((iprop(ow c (n + 1) ∗ postA m c D s p h ∗ fp c (bW D) fullShare (mmB m D p c (k4 (h + 1)))) -∗ run c P Q)
          -∗ run c (addH D s c P) Q) := by
  unfold addH preA postA waitH
  iintro ⟨#HP, HO, ⟨Hw, Hs, Ht⟩, HW⟩ Hk
  iapply (wp_waitW m K c D (.recv s) (fun K' => wpE_waitDma2_eq 𝒱₀ (c.tc : Thread nD τ) none Set.univ K')
      ((credit_halfR D s).trans (amt_recvH s p hh).symm) (rR_lt s p (by omega)) hl) $$ [HO Hw]
  · isplitr; · iexact HP
    isplitl [HO]; · iexact HO
    iexact Hw
  rw [pay_recvH m D c p s hh]
  iintro ⟨HO, Hw, HR, #Hrc⟩
  iapply (wp_waitS m K c D s (fun K' => wpE_waitDma2_eq 𝒱₀ (c.tc : Thread nD τ) none Set.univ K')
      ((credit_halfS D s).trans (amt_sendH s p hh).symm) (rS_lt s p (by omega)) (send_lev D s _ n)) $$ [HO Hs]
  · isplitr; · iexact HP
    isplitl [HO]; · iexact HO
    iexact Hs
  rw [pay_sendH m D c p s hh]
  iintro ⟨HO, Hs, HS⟩
  unfold hp fp
  iapply (wp_load 𝒱₀ (c.tc : Thread nD τ) none Set.univ (m := bR D) (S := (half (bR D) s).view.set) (setOn_half (bR D) s).le) $$ HR
  iintro HR
  rw [View.readAt_rep]
  iapply (wp_load 𝒱₀ (c.tc : Thread nD τ) none Set.univ (m := bW D) (S := (bW D).view.set)
    ((setOn_half (bW D) s).le.trans (half_subset (bW D) s))) $$ HW
  iintro HW
  rw [View.readAt_rep]
  iapply (wp_load 𝒱₀ (c.tc : Thread nD τ) none Set.univ (m := bS D) (S := (half (bS D) s).view.set) (setOn_half (bS D) s).le) $$ HS
  iintro HS
  iapply (wp_store 𝒱₀ (c.tc : Thread nD τ) none Set.univ (m := bS D) (r := hRect s) (Mk := Finset.univ) (S := (half (bS D) s).view.set)
    (le_refl _)) $$ HS
  iintro HS
  ihave HS := (Entails.of_eq (pointsTo_congr (g := (bS D).view.rep (acc m D p (h + 1) c))
    (write_half (bS D) s _ _ _ (by
      show addP (hOf (acc m D p h (src D c)) s) (hOf (mmB m D p c (k4 (h + 1))) s) = hOf (addB _ _) s
      unfold addB; rw [hOf_glue])))) $$ HS
  unfold ws atR
  icases Hw with ⟨⟨Hat, #Hre⟩, Hcs⟩
  iapply (wp_give m K c D (.cred s) (cred_reg D s) rfl (rC_lt s p (h := h + 1) (by omega)) he) $$ [HO Ht HR]
  · isplitr; · iexact HP
    isplitl [HO]; · iexact HO
    isplitl [Ht]; · iexact Ht
    isplitr; · iexact Hrc
    iapply (pay_back m c D s p hh)
    isplitl [HR]
    · unfold hx; iexists _; iexact HR
    · iexact Hre
  iintro ⟨HO, Ht⟩
  iapply Hk
  isplitl [HO]; · iexact HO
  isplitr [HW]
  · isplitl [HS]; · iexact HS
    isplitl [Hat Hcs]
    · isplitl [Hat]
      · isplitl [Hat]; · iexact Hat
        iexact Hre
      iexact Hcs
    isplitl [Hs]; · iexact Hs
    iexact Ht
  iexact HW

end Phases

end Cert.Proof.Ring
-- ==== Proof.Compute.lean ====
module

public import proofs.«01_k».proof.Proof.Steps

/-! # A device's own part of a block

The operands are copied in, half of the block's columns at a time, and multiplied into a communication buffer. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The counters of the copies within a device. -/
abbrev EC : UEmb Counters (MT nD τ sig ℕ (Elt F) ℕ UU ℕ) := countersEmb

/-- A copy within the device is waited for below everything. -/
theorem own_lev {l : SemLoc sig} (hk : keyOf l = none) (hb : l ≠ .reg sBar) (n : ℕ) : ∀ e ∈ evs.drop n, semLev l 0 < evLev e := by
  intro e _
  have h : semLev l 0 = 0 := by unfold semLev; rw [hk]; exact if_neg hb
  rw [h]
  cases e
  · exact Nat.one_pos
  · exact Nat.succ_pos _

section Copies
variable (m : (ℓ : Loc nD τ sig) → Buf (Elt F) ℓ) (K : Dev nD × Fin 15 → ℕ) (c : Dev nD)

/-- A copy from a slice of an argument `v` into an operand's buffer, in flight, with the rest of the argument. -/
def fly (v : Memref sig .tc .hbm S1024x1024 .bf16) (b : Memref sig .tc .vmem S1024x1024 .bf16) (q : DmaSem sig)
    (f : Buf (Elt F) (v.view.loc (c.tc : Thread nD τ))) : sProp 𝕄 :=
  iprop((∃ fd : Buf (Elt F) (b.view.loc (c.tc : Thread nD τ)), Transfers.Flight EC (c.tc : Thread nD τ) (.dma q) 0 b.view.dmaCredit
      iprop((b.view.loc (c.tc : Thread nD τ) ↦[Finset.univ]{fullShare} (b.view.write (Elt F) fd (v.view.read (Elt F) f) Finset.univ))
        ∗ (v.view.loc (c.tc : Thread nD τ) ↦[v.view.set]{fullShare} f)))
    ∗ (v.view.loc (c.tc : Thread nD τ) ↦[Finset.univ \ v.view.set]{fullShare} f))

/-- A read of an operand's block is started: the operand, the buffer and the semaphore's counter go into the copy. -/
theorem wp_get (v : Memref sig .tc .hbm S1024x1024 .bf16) (b : Memref sig .tc .vmem S1024x1024 .bf16) (q : DmaSem sig)
    {f : Buf (Elt F) (v.view.loc (c.tc : Thread nD τ))} {hsrc : v.view.WordExact} {hdst : b.view.WordExact}
    {hsem : (DmaTarget.here b : DmaTarget nD τ sig .tc .vmem S1024x1024 .bf16).Typed .hbm (.dma q)} {P : Pg F} {Q : PUnit → sProp 𝕄} :
    iprop((v.view.loc (c.tc : Thread nD τ) ↦[Finset.univ]{fullShare} f)
        ∗ (∃ fd : Buf (Elt F) (b.view.loc (c.tc : Thread nD τ)), b.view.loc (c.tc : Thread nD τ) ↦[Finset.univ]{fullShare} fd)
        ∗ semVal ((c.tc : Thread nD τ), .dma q) 0)
      ⊢ iprop((fly c v b q f -∗ run c P Q) -∗ run c (.op (.enqueueDma v (.here b) (.dma q) hsrc hdst hsem) fun _ => P) Q) := by
  unfold fly
  iintro ⟨Hv, ⟨%fd, Hb⟩, Hs⟩ Hk
  ihave Hv := (pointsTo_split_subset (Finset.subset_univ v.view.set)).1 $$ Hv
  icases Hv with ⟨Hv, Hrest⟩
  iapply (Transfers.wp_dmaLocal EC 𝒱₀ (c.tc : Thread nD τ) none (src := v) (via := .same) (dst := b) (sm := .dma q) (fs := f) (fd := fd)
      (Sd := Finset.univ) 0 b.view.dmaCredit rfl (View.dmaCredit_pos _ (by decide)) (Finset.subset_univ _)) $$ [Hv Hb Hs]
  · isplitl [Hv]; · iexact Hv
    isplitl [Hb]; · iexact Hb
    iexact Hs
  iintro Hf
  iapply Hk
  isplitl [Hf]; · iexists fd; iexact Hf
  iexact Hrest

/-- A read of an operand's block is awaited: the operand comes back, the buffer holds the block, the counter is zero. -/
theorem wp_got (v : Memref sig .tc .hbm S1024x1024 .bf16) (b : Memref sig .tc .vmem S1024x1024 .bf16) (hb : b.view.set = Finset.univ)
    (q : DmaSem sig) (hq : keyOf (.dma q) = none)
    {f : Buf (Elt F) (v.view.loc (c.tc : Thread nD τ))} {hsrc : v.view.WordExact} {hdst : b.view.WordExact} {n : ℕ} {P : Pg F} {Q : PUnit → sProp 𝕄} :
    iprop(pers m K ∗ ow c n ∗ fly c v b q f)
      ⊢ iprop((iprop(ow c n ∗ (v.view.loc (c.tc : Thread nD τ) ↦[Finset.univ]{fullShare} f)
            ∗ (b.view.loc (c.tc : Thread nD τ) ↦[Finset.univ]{fullShare} (b.view.rep (v.view.read (Elt F) f)))
            ∗ semVal ((c.tc : Thread nD τ), .dma q) 0) -∗ run c P Q)
          -∗ run c (.op (.waitDma2 q v b hsrc hdst) fun _ => P) Q) := by
  unfold fly ow
  iintro ⟨#HP, ⟨%W, HO⟩, ⟨%fd, Hf⟩, Hrest⟩ Hk
  iapply (Transfers.wp_waitLocalO EC 𝒱₀ (c.tc : Thread nD τ) none (dstw := b) (srcw := v) 0 rfl) $$ [Hf HO]
  · isplitl [Hf]; · iexact Hf
    isplitl [HO]; · iexact HO
    iapply (mayWait c (.dma q) 0 n (by decide) (own_lev hq (fun h => nomatch h) n)); iapply (pers_lev m K); iexact HP
  iintro ⟨⟨Hb, Hv⟩, Hs, HO⟩
  iapply Hk
  isplitl [HO]; · iexists _; iexact HO
  isplitl [Hv Hrest]
  · iapply (pointsTo_split_subset (Finset.subset_univ v.view.set)).2
    isplitl [Hv]; · iexact Hv
    iexact Hrest
  isplitl [Hb]
  · ihave Hb := (Entails.of_eq (pointsTo_congr (g := b.view.rep (v.view.read (Elt F) f)) (fun i _ => by
      have hi : i ∈ b.view.set := by rw [hb]; exact Finset.mem_univ i
      obtain ⟨y, -, rfl⟩ := Finset.mem_map.1 hi
      rw [View.write_emb_of_mem (h := Finset.mem_univ y), View.rep_emb]))) $$ Hb
    iexact Hb
  iexact Hs

/-- The left operand at rest: the argument, its buffer holding something, its semaphore at zero; -/
def rX : sProp 𝕄 :=
  iprop((aX.view.loc (c.tc : Thread nD τ) ↦[Finset.univ]{fullShare} m (aX.view.loc (c.tc : Thread nD τ)))
    ∗ (∃ f : Buf (Elt F) (bX.view.loc (c.tc : Thread nD τ)), bX.view.loc (c.tc : Thread nD τ) ↦[Finset.univ]{fullShare} f)
    ∗ semVal ((c.tc : Thread nD τ), .dma sX) 0)
/-- and the right one. -/
def rY : sProp 𝕄 :=
  iprop((aW.view.loc (c.tc : Thread nD τ) ↦[Finset.univ]{fullShare} m (aW.view.loc (c.tc : Thread nD τ)))
    ∗ (∃ f : Buf (Elt F) (bY.view.loc (c.tc : Thread nD τ)), bY.view.loc (c.tc : Thread nD τ) ↦[Finset.univ]{fullShare} f)
    ∗ semVal ((c.tc : Thread nD τ), .dma sY) 0)
/-- The left operand read: its buffer holds `x`; -/
def gX (x : HCts F) : sProp 𝕄 :=
  iprop((aX.view.loc (c.tc : Thread nD τ) ↦[Finset.univ]{fullShare} m (aX.view.loc (c.tc : Thread nD τ)))
    ∗ (bX.view.loc (c.tc : Thread nD τ) ↦[Finset.univ]{fullShare} bX.view.rep x)
    ∗ semVal ((c.tc : Thread nD τ), .dma sX) 0)
/-- and the right one. -/
def gY (x : HCts F) : sProp 𝕄 :=
  iprop((aW.view.loc (c.tc : Thread nD τ) ↦[Finset.univ]{fullShare} m (aW.view.loc (c.tc : Thread nD τ)))
    ∗ (bY.view.loc (c.tc : Thread nD τ) ↦[Finset.univ]{fullShare} bY.view.rep x)
    ∗ semVal ((c.tc : Thread nD τ), .dma sY) 0)

/-- The left operand's resources with known contents are those with some contents, -/
theorem gX_rX (x : HCts F) : gX m c x ⊢ rX m c := by
  unfold gX rX
  iintro ⟨H1, H2, H3⟩
  isplitl [H1]; · iexact H1
  isplitl [H2]; · iexists _; iexact H2
  iexact H3
/-- and so are the right operand's. -/
theorem gY_rY (x : HCts F) : gY m c x ⊢ rY m c := by
  unfold gY rY
  iintro ⟨H1, H2, H3⟩
  isplitl [H1]; · iexact H1
  isplitl [H2]; · iexists _; iexact H2
  iexact H3

/-- The left operand's rows on their way. -/
abbrev flyX (D : Bool) (k : Fin 4) : sProp 𝕄 := fly c (vX D c k) bX sX (m ((vX D c k).view.loc (c.tc : Thread nD τ)))
/-- The right operand's columns on their way. -/
abbrev flyY (D : Bool) (p : Fin 2) (s : Bool) : sProp 𝕄 := fly c (vW D p s) bY sY (m ((vW D p s).view.loc (c.tc : Thread nD τ)))

/-- A read of a block of the left operand is started, -/
theorem wp_getX (D : Bool) (k : Fin 4) {P : Pg F} {Q : PUnit → sProp 𝕄} :
    rX m c ⊢ iprop((flyX m c D k -∗ run c P Q) -∗ run c (getX D c k P) Q) := wp_get c (vX D c k) bX sX
/-- and one of the right operand. -/
theorem wp_getY (D : Bool) (p : Fin 2) (s : Bool) {P : Pg F} {Q : PUnit → sProp 𝕄} :
    rY m c ⊢ iprop((flyY m c D p s -∗ run c P Q) -∗ run c (getY D p s P) Q) := wp_get c (vW D p s) bY sY
/-- A read of a block of the left operand is awaited, -/
theorem wp_waitX (D : Bool) (k : Fin 4) {n : ℕ} {P : Pg F} {Q : PUnit → sProp 𝕄} :
    iprop(pers m K ∗ ow c n ∗ flyX m c D k) ⊢ iprop((iprop(ow c n ∗ gX m c (xB m c D k)) -∗ run c P Q) -∗ run c (waitX D c k P) Q) :=
  wp_got m K c (vX D c k) bX (View.set_whole _) sX keyOf_sX
/-- and one of the right operand. -/
theorem wp_waitY (D : Bool) (p : Fin 2) (s : Bool) {n : ℕ} {P : Pg F} {Q : PUnit → sProp 𝕄} :
    iprop(pers m K ∗ ow c n ∗ flyY m c D p s) ⊢ iprop((iprop(ow c n ∗ gY m c (wB m c D p s)) -∗ run c P Q) -∗ run c (waitY D p s P) Q) :=
  wp_got m K c (vW D p s) bY (View.set_whole _) sY keyOf_sY

/-- A load of a whole operand's buffer. -/
theorem read_all (b : Memref sig .tc .vmem S1024x1024 .bf16) (x : HCts F) : b.view.readAt (Elt F) fRect.toLoadRect (b.view.rep x) = x := by
  rw [View.readAt_rep]
  funext y
  refine congrArg x (funext fun a => ?_)
  match a with
  | ⟨0, _⟩ => exact Fin.ext (by show 0 + 1 * (y 0).val = (y 0).val; omega)
  | ⟨1, _⟩ => exact Fin.ext (by show 0 + 1 * (y 1).val = (y 1).val; omega)

/-- The two operands multiplied into half `s` of a buffer. -/
theorem wp_mul (b : Memref sig .tc .vmem S1024x2048 .bf16) (hb : b.IsWhole) (s : Bool) (x w : HCts F) (X : Cts F)
    (hX : mmP x w = hOf X s) {P : Pg F} {Q : PUnit → sProp 𝕄} :
    iprop(gX m c x ∗ gY m c w ∗ hx c b s)
      ⊢ iprop((iprop(gX m c x ∗ gY m c w ∗ hp c b s fullShare X) -∗ run c P Q) -∗ run c (mulInto b hb s P) Q) := by
  unfold mulInto gX gY hx hp
  iintro ⟨⟨Hx1, Hx, Hx3⟩, ⟨Hw1, Hw, Hw3⟩, ⟨%f, Hb⟩⟩ Hk
  iapply (wp_load 𝒱₀ (c.tc : Thread nD τ) none Set.univ (m := bX) (S := Finset.univ) (Finset.subset_univ _)) $$ Hx
  iintro Hx
  iapply (wp_load 𝒱₀ (c.tc : Thread nD τ) none Set.univ (m := bY) (S := Finset.univ) (Finset.subset_univ _)) $$ Hw
  iintro Hw
  iapply (wp_load 𝒱₀ (c.tc : Thread nD τ) none Set.univ (m := b) (S := (half b s).view.set) (half_set b s).ge) $$ Hb
  iintro Hb
  iapply (wp_store 𝒱₀ (c.tc : Thread nD τ) none Set.univ (m := b) (r := hRect s) (Mk := Finset.univ) (S := (half b s).view.set)
    (le_refl _)) $$ Hb
  iintro Hb
  ihave Hb := (Entails.of_eq (pointsTo_congr (g := b.view.rep X) (write_half b s _ _ X (by
    rw [← hX]
    exact congrArg₂ mmP (read_all bX x) (read_all bY w))))) $$ Hb
  iapply Hk
  isplitl [Hx1 Hx Hx3]
  · isplitl [Hx1]; · iexact Hx1
    isplitl [Hx]; · iexact Hx
    iexact Hx3
  isplitl [Hw1 Hw Hw3]
  · isplitl [Hw1]; · iexact Hw1
    isplitl [Hw]; · iexact Hw
    iexact Hw3
  iexact Hb

/-- The device's own part of the block `k` steps behind it, computed into a buffer. -/
theorem wp_compute (D : Bool) (p : Fin 2) (k : Fin 4) (b : Memref sig .tc .vmem S1024x2048 .bf16) (hb : b.IsWhole) {n : ℕ}
    {P : Pg F} {Q : PUnit → sProp 𝕄} :
    iprop(pers m K ∗ ow c n ∗ rX m c ∗ rY m c ∗ fx c b)
      ⊢ iprop((iprop(ow c n ∗ rX m c ∗ rY m c ∗ fp c b fullShare (mmB m D p c k)) -∗ run c P Q) -∗ run c (compute D p c k b hb P) Q) := by
  unfold compute
  iintro ⟨#HP, HO, HX, HY, Hb⟩ Hk
  ihave Hb := (fx_split c b) $$ Hb
  icases Hb with ⟨Hb0, Hb1⟩
  iapply (wp_getX m c D k) $$ HX
  iintro HX
  iapply (wp_getY m c D p false) $$ HY
  iintro HY
  iapply (wp_waitX m K c D k) $$ [HO HX]
  · isplitr; · iexact HP
    isplitl [HO]; · iexact HO
    iexact HX
  iintro ⟨HO, HX⟩
  iapply (wp_waitY m K c D p false) $$ [HO HY]
  · isplitr; · iexact HP
    isplitl [HO]; · iexact HO
    iexact HY
  iintro ⟨HO, HY⟩
  iapply (wp_mul m c b hb false _ _ (mmB m D p c k) (by unfold mmB; rw [hOf_glue])) $$ [HX HY Hb0]
  · isplitl [HX]; · iexact HX
    isplitl [HY]; · iexact HY
    iexact Hb0
  iintro ⟨HX, HY, Hb0⟩
  ihave HY := (gY_rY m c _) $$ HY
  iapply (wp_getY m c D p true) $$ HY
  iintro HY
  iapply (wp_waitY m K c D p true) $$ [HO HY]
  · isplitr; · iexact HP
    isplitl [HO]; · iexact HO
    iexact HY
  iintro ⟨HO, HY⟩
  iapply (wp_mul m c b hb true _ _ (mmB m D p c k) (by unfold mmB; rw [hOf_glue])) $$ [HX HY Hb1]
  · isplitl [HX]; · iexact HX
    isplitl [HY]; · iexact HY
    iexact Hb1
  iintro ⟨HX, HY, Hb1⟩
  ihave HY := (gY_rY m c _) $$ HY
  ihave HX := (gX_rX m c _) $$ HX
  iapply Hk
  isplitl [HO]; · iexact HO
  isplitl [HX]; · iexact HX
  isplitl [HY]; · iexact HY
  iapply (fp_halves c b fullShare _).2
  isplitl [Hb0]; · iexact Hb0
  iexact Hb1

end Copies

end Cert.Proof.Ring
-- ==== Proof.Put.lean ====
module

public import proofs.«01_k».proof.Proof.Compute

/-! # The result

A gathered block is activated tile by tile and copied into the result, which holds what it should at every index
written so far. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Where a tile lies -/

section Tile
variable (D : Bool) (p : Fin 2) (c : Dev nD) (k t : Fin 4)

/-- The row of an element of a tile of the result, -/
theorem oRect_row (j : S256x2048.Idx) : (((oRect D p c k t).idx j) 0).val = 1024 * (ck D c k).val + 256 * t.val + (j 0).val := by
  show oOff D p c k t 0 + 1 * (j 0).val = _
  rw [oOff_eq]; show 1024 * (ck D c k).val + 256 * t.val + 1 * (j 0).val = _; omega
/-- its column, -/
theorem oRect_col (j : S256x2048.Idx) : (((oRect D p c k t).idx j) 1).val = colB D p + (j 1).val := by
  show oOff D p c k t 1 + 1 * (j 1).val = _
  rw [oOff_eq]; show colB D p + 1 * (j 1).val = _; omega

/-- its direction, -/
theorem oRect_dir (j : S256x2048.Idx) : dirOf ((oRect D p c k t).idx j) = D := by
  have h := oRect_col D p c k t j
  have hj : (j 1).val < 2048 := (j 1).isLt
  have hp := p.isLt
  unfold dirOf; rw [h]
  cases D
  · exact decide_eq_false (by show ¬ 4096 ≤ 0 + 2048 * p.val + (j 1).val; omega)
  · exact decide_eq_true (by show 4096 ≤ 4096 + 2048 * p.val + (j 1).val; omega)
/-- its pass, -/
theorem oRect_pass (j : S256x2048.Idx) : passOf ((oRect D p c k t).idx j) = p := by
  have h := oRect_col D p c k t j
  have hj : (j 1).val < 2048 := (j 1).isLt
  have hp := p.isLt
  unfold passOf p2; rw [h]
  refine Fin.ext ?_
  cases D
  · show (0 + 2048 * p.val + (j 1).val) / 2048 % 2 = p.val; omega
  · show (4096 + 2048 * p.val + (j 1).val) / 2048 % 2 = p.val; omega
/-- its chunk, -/
theorem oRect_rowOf (j : S256x2048.Idx) : rowOf ((oRect D p c k t).idx j) = ck D c k := by
  have h := oRect_row D p c k t j
  have hj : (j 0).val < 256 := (j 0).isLt
  have ht := t.isLt
  refine Fin.ext ?_
  show (((oRect D p c k t).idx j) 0).val / 1024 = _
  rw [h]; omega
/-- its tile within the chunk, -/
theorem oRect_tile (j : S256x2048.Idx) : tSide (bIx ((oRect D p c k t).idx j)) = t := by
  have h := oRect_row D p c k t j
  have hj : (j 0).val < 256 := (j 0).isLt
  have ht := t.isLt
  refine Fin.ext ?_
  show (((oRect D p c k t).idx j) 0).val % 1024 / 256 = _
  rw [h]; omega
/-- and its place within the tile. -/
theorem oRect_tIx (j : S256x2048.Idx) : tIx (bIx ((oRect D p c k t).idx j)) = j := by
  have h := oRect_row D p c k t j
  have h' := oRect_col D p c k t j
  have hj : (j 0).val < 256 := (j 0).isLt
  have hj' : (j 1).val < 2048 := (j 1).isLt
  have ht := t.isLt
  have hp := p.isLt
  funext a
  match a with
  | ⟨0, _⟩ =>
    refine Fin.ext ?_
    show (((oRect D p c k t).idx j) 0).val % 1024 % 256 = (j 0).val
    rw [h]; omega
  | ⟨1, _⟩ =>
    refine Fin.ext ?_
    show (((oRect D p c k t).idx j) 1).val % 2048 = (j 1).val
    rw [h']
    cases D
    · show (0 + 2048 * p.val + (j 1).val) % 2048 = _; omega
    · show (4096 + 2048 * p.val + (j 1).val) % 2048 = _; omega

/-- An index of the block is where the tile it is in puts it. -/
theorem oRect_back (i : S4096x8192.Idx) (hD : dirOf i = D) (hp : passOf i = p) (hr : rowOf i = ck D c k) (ht : tSide (bIx i) = t) :
    (oRect D p c k t).idx (tIx (bIx i)) = i := by
  have h := oRect_row D p c k t (tIx (bIx i))
  have h' := oRect_col D p c k t (tIx (bIx i))
  have h0 : (i 0).val < 4096 := (i 0).isLt
  have h1 : (i 1).val < 8192 := (i 1).isLt
  have hrv : (i 0).val / 1024 = (ck D c k).val := congrArg Fin.val hr
  have htv : (i 0).val % 1024 / 256 = t.val := congrArg Fin.val ht
  have hpv : (i 1).val / 2048 % 2 = p.val := congrArg Fin.val hp
  funext a
  match a with
  | ⟨0, _⟩ =>
    refine Fin.ext (h.trans ?_)
    show 1024 * (ck D c k).val + 256 * t.val + (i 0).val % 1024 % 256 = (i 0).val
    rw [← hrv, ← htv]; omega
  | ⟨1, _⟩ =>
    refine Fin.ext (h'.trans ?_)
    show colB D p + (i 1).val % 2048 = (i 1).val
    cases D
    · have hd : ¬ 4096 ≤ (i 1).val := of_decide_eq_false hD
      show 0 + 2048 * p.val + (i 1).val % 2048 = _
      omega
    · have hd : 4096 ≤ (i 1).val := of_decide_eq_true hD
      show 4096 + 2048 * p.val + (i 1).val % 2048 = _
      omega

end Tile

/-- The indices of the block `k` steps behind device `c`. -/
def inBlk (D : Bool) (p : Fin 2) (c : Dev nD) (k : Fin 4) (i : S4096x8192.Idx) : Prop := dirOf i = D ∧ passOf i = p ∧ rowOf i = ck D c k

section Out
variable (m : (ℓ : Loc nD τ sig) → Buf (Elt F) ℓ) (K : Dev nD × Fin 15 → ℕ) (c : Dev nD)

/-- The result holds what it should wherever `Z` holds. -/
def out (Z : S4096x8192.Idx → Prop) : sProp 𝕄 :=
  iprop(∃ f : Buf (Elt F) (aO.view.loc (c.tc : Thread nD τ)), ⌜∀ i : S4096x8192.Idx, Z i → f i = res m i⌝
    ∗ (aO.view.loc (c.tc : Thread nD τ) ↦[Finset.univ]{fullShare} f))

/-- A result that is right on a set is right on every smaller set. -/
theorem out_mono {Z Z' : S4096x8192.Idx → Prop} (h : ∀ i, Z' i → Z i) : out m c Z ⊢ out m c Z' := by
  unfold out
  iintro ⟨%f, %hf, H⟩
  iexists f
  isplitr; · ipureintro; exact fun i hi => hf i (h i hi)
  iexact H

/-- The staging buffer and its semaphore at rest. -/
def rT : sProp 𝕄 :=
  iprop((∃ f : Buf (Elt F) (bT.view.loc (c.tc : Thread nD τ)), bT.view.loc (c.tc : Thread nD τ) ↦[Finset.univ]{fullShare} f)
    ∗ semVal ((c.tc : Thread nD τ), .dma sO) 0)

/-- A load of a tile. -/
theorem read_tile (b : Memref sig .tc .vmem S1024x2048 .bf16) (t : Fin 4) (X : Cts F) :
    b.view.readAt (Elt F) (tRect t).toLoadRect (b.view.rep X) = tOf X t := View.readAt_rep _ _ _

/-- The staging buffer is read and written from its start. -/
theorem gRect_off : (![0, 0] : Fin 2 → ℕ) = fun _ => 0 := by funext a; match a with | ⟨0, _⟩ => rfl | ⟨1, _⟩ => rfl

/-- Tile `t` of a buffer that holds the gathered block, activated and put in the result. -/
theorem wp_putT (D : Bool) (p : Fin 2) (k : Fin 4) (b : Memref sig .tc .vmem S1024x2048 .bf16) (q : PosShare TreeShare) (t : Fin 4)
    (Z : S4096x8192.Idx → Prop) {n : ℕ} {P : Pg F} {Q : PUnit → sProp 𝕄} :
    iprop(pers m K ∗ ow c n ∗ fp c b q (gath m D p c k) ∗ rT c ∗ out m c Z)
      ⊢ iprop((iprop(ow c n ∗ fp c b q (gath m D p c k) ∗ rT c ∗ out m c (fun i => Z i ∨ (inBlk D p c k i ∧ tSide (bIx i) = t))) -∗ run c P Q)
          -∗ run c (putT D p c k b t P) Q) := by
  unfold putT fp rT out ow
  iintro ⟨#HP, ⟨%W, HO⟩, Hb, ⟨⟨%g, Ht⟩, Hs⟩, ⟨%f, %hf, Ho⟩⟩ Hk
  iapply (wp_load 𝒱₀ (c.tc : Thread nD τ) none Set.univ (m := b) (S := b.view.set) (Finset.map_subset_map.2 (Finset.subset_univ _))) $$ Hb
  iintro Hb
  rw [read_tile]
  iapply (wp_load 𝒱₀ (c.tc : Thread nD τ) none Set.univ (m := bT) (S := Finset.univ) (Finset.subset_univ _)) $$ Ht
  iintro Ht
  iapply (wp_store 𝒱₀ (c.tc : Thread nD τ) none Set.univ (m := bT) (r := gRect) (Mk := Finset.univ) (S := Finset.univ)
    (Finset.subset_univ _)) $$ Ht
  iintro Ht
  ihave Ht := (Entails.of_eq (congrArg (fun z => (bT.view.loc (c.tc : Thread nD τ) ↦[Finset.univ]{fullShare} z : sProp 𝕄))
    (Memref.write_access_unit_zero_univ (Elt F) cc0_scratch8 gRect_off inb_S256x2048_S256x2048_0_0 g
      (actP (tOf (gath m D p c k) t))))) $$ Ht
  ihave Ht := (Entails.of_eq (congrArg (fun z => (bT.view.loc (c.tc : Thread nD τ) ↦[z]{fullShare} _ : sProp 𝕄))
    (View.set_whole cc0_scratch8).symm)) $$ Ht
  iapply (Transfers.wp_dmaLocal EC 𝒱₀ (c.tc : Thread nD τ) none (src := bT) (via := .same) (dst := vO D p c k t) (sm := .dma sO) (fd := f)
      (Sd := Finset.univ) 0 (vO D p c k t).view.dmaCredit rfl (View.dmaCredit_pos _ (by decide)) (Finset.subset_univ _)) $$ [Ht Ho Hs]
  · isplitl [Ht]; · iexact Ht
    isplitl [Ho]; · iexact Ho
    iexact Hs
  iintro Hf
  iapply (Transfers.wp_waitLocalO EC 𝒱₀ (c.tc : Thread nD τ) none (dstw := vO D p c k t) (srcw := bT) 0 rfl) $$ [Hf HO]
  · isplitl [Hf]; · iexact Hf
    isplitl [HO]; · iexact HO
    iapply (mayWait c (.dma sO) 0 n (by decide) (own_lev keyOf_sO (fun h => nomatch h) n)); iapply (pers_lev m K); iexact HP
  iintro ⟨⟨Ho, Ht⟩, Hs, HO⟩
  iapply Hk
  isplitl [HO]; · iexists _; iexact HO
  isplitl [Hb]; · iexact Hb
  isplitl [Ht Hs]
  · isplitl [Ht]
    · iexists _
      ihave Ht := (Entails.of_eq (congrArg (fun z => (bT.view.loc (c.tc : Thread nD τ) ↦[z]{fullShare} _ : sProp 𝕄))
        (View.set_whole cc0_scratch8))) $$ Ht
      iexact Ht
    iexact Hs
  iexists _
  isplitr
  rotate_left
  · iexact Ho
  ipureintro
  intro i hi
  by_cases hm : inBlk D p c k i ∧ tSide (bIx i) = t
  · obtain ⟨⟨hD, hp, hr⟩, ht⟩ := hm
    have hb := oRect_back D p c k t i hD hp hr ht
    have hw := View.write_emb_of_mem (v := (vO D p c k t).view) (Val := Elt F) f (actP (tOf (gath m D p c k) t))
      (M := Finset.univ) (x := tIx (bIx i)) (Finset.mem_univ _)
    have he : (vO D p c k t).view.emb (tIx (bIx i)) = i := hb
    rw [he] at hw
    refine hw.trans ?_
    show actP (tOf (gath m D p c k) t) (tIx (bIx i)) = res m i
    unfold res actB gath
    rw [hD, hp, hr, ht]
  · have hz : Z i := hi.resolve_right hm
    rw [← hf i hz]
    refine View.write_of_not_mem _ _ _ (fun hmem => hm ?_)
    obtain ⟨y, -, hy⟩ := Finset.mem_map.1 hmem
    have hy' : (oRect D p c k t).idx y = i := hy
    rw [← hy']
    exact ⟨⟨oRect_dir D p c k t y, oRect_pass D p c k t y, oRect_rowOf D p c k t y⟩, oRect_tile D p c k t y⟩

/-- The whole of a gathered block, activated and put in the result. -/
theorem wp_put (D : Bool) (p : Fin 2) (k : Fin 4) (b : Memref sig .tc .vmem S1024x2048 .bf16) (q : PosShare TreeShare)
    (Z : S4096x8192.Idx → Prop) {n : ℕ} {P : Pg F} {Q : PUnit → sProp 𝕄} :
    iprop(pers m K ∗ ow c n ∗ fp c b q (gath m D p c k) ∗ rT c ∗ out m c Z)
      ⊢ iprop((iprop(ow c n ∗ fp c b q (gath m D p c k) ∗ rT c ∗ out m c (fun i => Z i ∨ inBlk D p c k i)) -∗ run c P Q)
          -∗ run c (put D p c k b P) Q) := by
  unfold put
  iintro ⟨#HP, H⟩ Hk
  iapply (wp_putT m K c D p k b q 0 Z) $$ [H]
  · isplitr; · iexact HP
    iexact H
  iintro H
  iapply (wp_putT m K c D p k b q 1 _) $$ [H]
  · isplitr; · iexact HP
    iexact H
  iintro H
  iapply (wp_putT m K c D p k b q 2 _) $$ [H]
  · isplitr; · iexact HP
    iexact H
  iintro H
  iapply (wp_putT m K c D p k b q 3 _) $$ [H]
  · isplitr; · iexact HP
    iexact H
  iintro ⟨HO, Hb, Ht, Ho⟩
  iapply Hk
  isplitl [HO]; · iexact HO
  isplitl [Hb]; · iexact Hb
  isplitl [Ht]; · iexact Ht
  iapply (out_mono m c (Z := fun i => (((Z i ∨ (inBlk D p c k i ∧ tSide (bIx i) = 0)) ∨ (inBlk D p c k i ∧ tSide (bIx i) = 1))
      ∨ (inBlk D p c k i ∧ tSide (bIx i) = 2)) ∨ (inBlk D p c k i ∧ tSide (bIx i) = 3)) (fun i hi => by
    have h4 : ∀ t : Fin 4, t = 0 ∨ t = 1 ∨ t = 2 ∨ t = 3 := by decide
    rcases hi with hi | hi
    · exact .inl (.inl (.inl (.inl hi)))
    · rcases h4 (tSide (bIx i)) with h | h | h | h
      · exact .inl (.inl (.inl (.inr ⟨hi, h⟩)))
      · exact .inl (.inl (.inr ⟨hi, h⟩))
      · exact .inl (.inr ⟨hi, h⟩)
      · exact .inr ⟨hi, h⟩))
  iexact Ho

end Out

end Cert.Proof.Ring
-- ==== Proof.Gather.lean ====
module

public import proofs.«01_k».proof.Proof.Reduce
public import proofs.«01_k».proof.Proof.Put

/-! # The gather's phases

A device's place in one direction of the ring, and the phases of the gather, one direction at a time: a whole buffer
sent on while the device reads it, the receipts, and the credits given back. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Phases
variable (m : (ℓ : Loc nD τ sig) → Buf (Elt F) ℓ) (K : Dev nD × Fin 15 → ℕ) (c : Dev nD)

/-- Sending the whole of `b` to the target's `b'`, reading it on with half the share. -/
theorem wp_sendF (D s : Bool) (p : Fin 2) {j r₂ n : ℕ} (k : Fin 4) (b b' : Memref sig .tc .vmem S1024x2048 .bf16) (hb : b.IsWhole) (hb' : b'.IsWhole)
    (hj : 3 ≤ j) (hj' : j < 6) (X : Cts F) (Fr : sProp 𝕄) (hN : b'.view.dmaCredit = NF) (ha : amt (.recv s) r₂ = NF) (hr : r₂ < rounds (.recv s))
    (he : evs[n]? = some (.pay D (.recv s) r₂))
    (hp1 : pay m D c (.send false) (rS false p j) = fp c b fullShare.left X)
    (hp2 : pay m D (tgt D c) (.recv s) r₂ = iprop(fp (tgt D c) b' fullShare X ∗ Fr)) {P : Pg F} {Q : PUnit → sProp 𝕄} :
    iprop(pers m K ∗ ow c n ∗ fp c b fullShare X ∗ fx (tgt D c) b' ∗ Fr ∗ ss c D false (rS false p j) ∗ ps c D (.recv s) r₂
        ∗ rch (tgt D c) D (.recv s) r₂)
      ⊢ iprop((iprop(ow c (n + 1) ∗ fp c b fullShare.right X ∗ sw c D false (rS false p j) ∗ ps c D (.recv s) (r₂ + 1)) -∗ run c P Q)
          -∗ run c (sendF D s c b b' hb hb' P) Q) := by
  unfold sendF
  iintro ⟨#HP, HO, Hb, Hd, HF, Hs, Ht, Hr⟩ Hk
  ihave Hb := (fp_share c b X).1 $$ Hb
  icases Hb with ⟨Hb, Hb2⟩
  unfold fx
  icases Hd with ⟨%fd, Hd⟩
  iapply (wp_sendG m K c D false s (Sh := S1024x2048) (b := b) (b' := b') (q := fullShare.left)
      (fs := b.view.rep X) (fd := fd) (Fr := Fr) hN (amt_sendF p hj hj') ha
      (by have := p.isLt; show 6 * p.val + j < 12; omega) hr he
      (Entails.of_eq hp1.symm)
      (by
        rw [hp2]
        refine sep_mono_left (Entails.of_eq ?_)
        rw [View.read_rep]
        exact pointsTo_congr (write_full b' fd X))) $$ [HO Hb Hd HF Hs Ht Hr]
  · isplitr; · iexact HP
    isplitl [HO]; · iexact HO
    isplitl [Hb]; · unfold fp; iexact Hb
    isplitl [Hd HF]
    · isplitl [Hd]; · iexact Hd
      iexact HF
    isplitl [Hs]; · iexact Hs
    isplitl [Ht]; · iexact Ht
    iexact Hr
  iintro ⟨HO, Hs, Ht⟩
  iapply Hk
  isplitl [HO]; · iexact HO
  isplitl [Hb2]; · iexact Hb2
  isplitl [Hs]; · iexact Hs
  iexact Ht

/-- A wait for the whole buffer the device sent. -/
theorem wp_sentF (D : Bool) (p : Fin 2) {j n : ℕ} (b b' b'' : Memref sig .tc .vmem S1024x2048 .bf16) (hb : b.IsWhole) (hb' : b'.IsWhole)
    (hj : 3 ≤ j) (hj' : j < 6) (X : Cts F) (hN : b'.view.dmaCredit = NF)
    (hp1 : pay m D c (.send false) (rS false p j) = fp c b'' fullShare.left X) {P : Pg F} {Q : PUnit → sProp 𝕄} :
    iprop(pers m K ∗ ow c n ∗ sw c D false (rS false p j) ∗ fp c b'' fullShare.right X)
      ⊢ iprop((iprop(ow c n ∗ ss c D false (rS false p j + 1) ∗ fp c b'' fullShare X) -∗ run c P Q)
          -∗ run c (waitF (sSend D false) b b' hb hb' P) Q) := by
  unfold waitF
  iintro ⟨#HP, HO, Hs, Hb⟩ Hk
  iapply (wp_waitS m K c D false (fun K' => wpE_waitDma2_eq 𝒱₀ (c.tc : Thread nD τ) none Set.univ K')
      (hN.trans (amt_sendF p hj hj').symm) (by have := p.isLt; show 6 * p.val + j < 12; omega) (send_lev D false _ n)) $$ [HO Hs]
  · isplitr; · iexact HP
    isplitl [HO]; · iexact HO
    iexact Hs
  rw [hp1]
  iintro ⟨HO, Hs, Hb2⟩
  iapply Hk
  isplitl [HO]; · iexact HO
  isplitl [Hs]; · iexact Hs
  iapply (fp_share c b'' X).2
  isplitl [Hb2]; · iexact Hb2
  iexact Hb

/-- A wait for a whole buffer from the source. -/
theorem wp_recvF (D s : Bool) {r n : ℕ} (b b' : Memref sig .tc .vmem S1024x2048 .bf16) (hb : b.IsWhole) (hb' : b'.IsWhole)
    (hN : b'.view.dmaCredit = NF) (ha : amt (.recv s) r = NF) (hr : r < rounds (.recv s))
    (hl : ∀ e ∈ evs.drop n, semLev (semOf D (.recv s)) r < evLev e) {P : Pg F} {Q : PUnit → sProp 𝕄} :
    iprop(pers m K ∗ ow c n ∗ ws c D (.recv s) r)
      ⊢ iprop((iprop(ow c n ∗ ws c D (.recv s) (r + 1) ∗ pay m D c (.recv s) r) -∗ run c P Q) -∗ run c (waitF (sRecv D s) b b' hb hb' P) Q) := by
  unfold waitF
  exact wp_waitW m K c D (.recv s) (kt := fun _ => P) (fun K' => wpE_waitDma2_eq 𝒱₀ (c.tc : Thread nD τ) none Set.univ K') (hN.trans ha.symm) hr hl

/-- What a receipt's cell has reached. -/
theorem ws_rch (D : Bool) (k : Kn) (r : ℕ) : (ws (F := F) c D k r) ⊢ iprop(ws c D k r ∗ rch c D k r) := by
  unfold ws atR
  iintro ⟨⟨H1, #H2⟩, H3⟩
  isplitl [H1 H3]
  · isplitl [H1]
    · isplitl [H1]; · iexact H1
      iexact H2
    iexact H3
  iexact H2

/-- Both credits of the receive buffer given back. -/
theorem wp_giveR (D : Bool) {r n : ℕ} (hr : r < 10) (he : evs[n]? = some (.pay D (.cred false) r)) (he' : evs[n + 1]? = some (.pay D (.cred true) r))
    (G : sProp 𝕄) (hG : iprop(hx c (bR D) true ∗ G) ⊢ pay m D (src D c) (.cred true) r) {P : Pg F} {Q : PUnit → sProp 𝕄} :
    iprop(pers m K ∗ ow c n ∗ ps c D (.cred false) r ∗ ps c D (.cred true) r ∗ rch (src D c) D (.cred false) r ∗ rch (src D c) D (.cred true) r
        ∗ fx c (bR D) ∗ rch c D (.recv false) r ∗ G)
      ⊢ iprop((iprop(ow c (n + 2) ∗ ps c D (.cred false) (r + 1) ∗ ps c D (.cred true) (r + 1)) -∗ run c P Q) -∗ run c (giveR D c P) Q) := by
  unfold giveR
  iintro ⟨#HP, HO, Ha, Hb, Hra, Hrb, Hf, Hrr, HG⟩ Hk
  ihave Hf := (fx_split c (bR D)) $$ Hf
  icases Hf with ⟨Hf0, Hf1⟩
  iapply (wp_give m K c D (.cred false) (cred_reg D false) rfl (by show r < 10; exact hr) he) $$ [HO Ha Hra Hf0 Hrr]
  · isplitr; · iexact HP
    isplitl [HO]; · iexact HO
    isplitl [Ha]; · iexact Ha
    isplitl [Hra]; · iexact Hra
    rw [pay_credA, show payee D (.cred false) c = src D c from rfl, tgt_src]
    isplitl [Hf0]; · iexact Hf0
    iexact Hrr
  iintro ⟨HO, Ha⟩
  iapply (wp_give m K c D (.cred true) (cred_reg D true) rfl (by show r < 10; exact hr) he') $$ [HO Hb Hrb Hf1 HG]
  · isplitr; · iexact HP
    isplitl [HO]; · iexact HO
    isplitl [Hb]; · iexact Hb
    isplitl [Hrb]; · iexact Hrb
    iapply hG
    isplitl [Hf1]; · iexact Hf1
    iexact HG
  iintro ⟨HO, Hb⟩
  iapply Hk
  isplitl [HO]; · iexact HO
  isplitl [Ha]; · iexact Ha
  iexact Hb

/-- Both credits of the target's receive buffer taken. -/
theorem wp_takeR (D : Bool) (p : Fin 2) {j n : ℕ} (hj : 3 ≤ j) (hj' : j < 5)
    (hla : ∀ e ∈ evs.drop n, semLev (semOf D (.cred false)) (rC p j) < evLev e)
    (hlb : ∀ e ∈ evs.drop n, semLev (semOf D (.cred true)) (rC p j) < evLev e) {P : Pg F} {Q : PUnit → sProp 𝕄} :
    iprop(pers m K ∗ ow c n ∗ ws c D (.cred false) (rC p j) ∗ ws c D (.cred true) (rC p j))
      ⊢ iprop((iprop(ow c n ∗ ws c D (.cred false) (rC p j + 1) ∗ ws c D (.cred true) (rC p j + 1)
            ∗ fx (tgt D c) (bR D) ∗ rch (tgt D c) D (.recv false) (rC p j)) -∗ run c P Q)
          -∗ run c (waitC (sCred D false) 1#32 (waitC (sCred D true) 1#32 P)) Q) := by
  iintro ⟨#HP, HO, Ha, Hb⟩ Hk
  iapply (wp_waitCred m K c D false (rC_lt false p hj') hla) $$ [HO Ha]
  · isplitr; · iexact HP
    isplitl [HO]; · iexact HO
    iexact Ha
  rw [pay_credA]
  iintro ⟨HO, Ha, Hx0, Hr⟩
  iapply (wp_waitCred m K c D true (rC_lt true p hj') hlb) $$ [HO Hb]
  · isplitr; · iexact HP
    isplitl [HO]; · iexact HO
    iexact Hb
  rw [pay_credB m D c p hj hj']
  iintro ⟨HO, Hb, Hx1, -⟩
  iapply Hk
  isplitl [HO]; · iexact HO
  isplitl [Ha]; · iexact Ha
  isplitl [Hb]; · iexact Hb
  isplitr [Hr]
  · iapply (fx_join (tgt D c) (bR D))
    isplitl [Hx0]; · iexact Hx0
    iexact Hx1
  iexact Hr

end Phases

end Cert.Proof.Ring
-- ==== Proof.Stages.lean ====
module

public import proofs.«01_k».proof.Proof.Gather

/-! # The stages of a pass

What a device holds for one direction between the phases of a pass, and each phase as a step from one stage to the
next. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Where the payments stand -/

/-- The payments made before pass `p`. -/
abbrev bp (p : Fin 2) : ℕ := 6 + 40 * p.val
/-- The payments made before step `h` of it. -/
abbrev bh (p : Fin 2) (h : ℕ) : ℕ := bp p + 8 * h

/-- The place among a device's payments of a send of a half, -/
theorem ev_sendH : ∀ (D s : Bool) (p : Fin 2) (h : Fin 3), evs[bh p h + (2 * D.toNat + s.toNat)]? = some (.pay D (.recv s) (rR s p h)) := by
  decide +kernel
/-- and its wait for a credit is below all that is owed then. -/
theorem lev_sendH : ∀ (D s : Bool) (p : Fin 2) (h : Fin 3), ∀ e ∈ evs.drop (bh p h + (2 * D.toNat + s.toNat)),
    semLev (semOf D (.cred s)) (rC p h) < evLev e := by decide +kernel
/-- The place of a credit given after an addition, -/
theorem ev_addH : ∀ (D s : Bool) (p : Fin 2) (h : Fin 3), evs[bh p h + (4 + D.toNat + 2 * s.toNat)]? = some (.pay D (.cred s) (rC p h + 1)) := by
  decide +kernel
/-- and the wait for the half that is added is below all that is owed then. -/
theorem lev_addH : ∀ (D s : Bool) (p : Fin 2) (h : Fin 3), ∀ e ∈ evs.drop (bh p h + (4 + D.toNat + 2 * s.toNat)),
    semLev (semOf D (.recv s)) (rR s p h) < evLev e := by decide +kernel
/-- The place of the work buffer's credit, -/
theorem ev_giveW : ∀ (D : Bool) (p : Fin 2), evs[bp p + 24 + D.toNat]? = some (.pay D .credW p.val) := by decide +kernel
/-- of the first gathering send, -/
theorem ev_send0 : ∀ (D : Bool) (p : Fin 2), evs[bp p + 26 + D.toNat]? = some (.pay D (.recv false) (rR false p 3)) := by decide +kernel
/-- whose wait for credits is below all that is owed then, -/
theorem lev_send0 : ∀ (D s : Bool) (p : Fin 2), ∀ e ∈ evs.drop (bp p + 26 + D.toNat), semLev (semOf D (.cred s)) (rC p 3) < evLev e := by
  decide +kernel
/-- as is the wait for the first receipt; -/
theorem lev_recv0 : ∀ (D : Bool) (p : Fin 2), ∀ e ∈ evs.drop (bp p + 28), semLev (semOf D (.recv false)) (rR false p 3) < evLev e := by
  decide +kernel
/-- the place of the second gathering send, -/
theorem ev_send1 : ∀ (D : Bool) (p : Fin 2), evs[bp p + 28 + D.toNat]? = some (.pay D (.recv true) (rR true p 3)) := by decide +kernel
/-- whose wait for the work buffer's credit is below all that is owed then; -/
theorem lev_send1 : ∀ (D : Bool) (p : Fin 2), ∀ e ∈ evs.drop (bp p + 28 + D.toNat), semLev (semOf D .credW) p.val < evLev e := by
  decide +kernel
/-- the place of the credits given after it, -/
theorem ev_give1 : ∀ (D s : Bool) (p : Fin 2), evs[bp p + 30 + 2 * D.toNat + s.toNat]? = some (.pay D (.cred s) (rC p 4)) := by decide +kernel
/-- the wait for the second receipt is below all that is owed then; -/
theorem lev_recv1 : ∀ (D : Bool) (p : Fin 2), ∀ e ∈ evs.drop (bp p + 34), semLev (semOf D (.recv true)) (rR true p 3) < evLev e := by
  decide +kernel
/-- the place of the third gathering send, -/
theorem ev_send2 : ∀ (D : Bool) (p : Fin 2), evs[bp p + 34 + D.toNat]? = some (.pay D (.recv false) (rR false p 4)) := by decide +kernel
/-- whose wait for credits is below all that is owed then, -/
theorem lev_send2 : ∀ (D s : Bool) (p : Fin 2), ∀ e ∈ evs.drop (bp p + 34 + D.toNat), semLev (semOf D (.cred s)) (rC p 4) < evLev e := by
  decide +kernel
/-- as is the wait for the third receipt; -/
theorem lev_recv2 : ∀ (D : Bool) (p : Fin 2), ∀ e ∈ evs.drop (bp p + 36), semLev (semOf D (.recv false)) (rR false p 4) < evLev e := by
  decide +kernel
/-- and the place of the credits given between the passes. -/
theorem ev_mid : ∀ (D s : Bool), evs[42 + 2 * D.toNat + s.toNat]? = some (.pay D (.cred s) 5) := by decide +kernel

section Stages
variable (m : (ℓ : Loc nD τ sig) → Buf (Elt F) ℓ) (K : Dev nD × Fin 15 → ℕ) (c : Dev nD)

/-! ## The reduction -/

/-- One half, before step `h`. -/
def hst (D s : Bool) (p : Fin 2) (h : ℕ) : sProp 𝕄 :=
  iprop(preH m c D s p h ∗ ws c D (.recv s) (rR s p h) ∗ ps c D (.cred s) (rC p h + 1))
/-- One half, sent at step `h`. -/
def hmid (D s : Bool) (p : Fin 2) (h : ℕ) : sProp 𝕄 :=
  iprop(postH c D s p h ∗ ws c D (.recv s) (rR s p h) ∗ ps c D (.cred s) (rC p h + 1))

/-- The round after a step's is the next step's, for sends, -/
theorem rS_succ (s : Bool) (p : Fin 2) (h : ℕ) : rS s p h + 1 = rS s p (h + 1) := by cases s <;> rfl
/-- for receipts, -/
theorem rR_succ (s : Bool) (p : Fin 2) (h : ℕ) : rR s p h + 1 = rR s p (h + 1) := by cases s <;> rfl
/-- and for credits. -/
theorem rC_succ (p : Fin 2) (h : ℕ) : rC p h + 1 = rC p (h + 1) := rfl

/-- The send of a half in a step of the reduction. -/
theorem st_send (D s : Bool) (p : Fin 2) (h : Fin 3) {P : Pg F} {Q : PUnit → sProp 𝕄} :
    iprop(pers m K ∗ ow c (bh p h + (2 * D.toNat + s.toNat)) ∗ hst m c D s p h)
      ⊢ iprop((iprop(ow c (bh p h + (2 * D.toNat + s.toNat) + 1) ∗ hmid c D s p h) -∗ run c P Q) -∗ run c (sendH D s c P) Q) := by
  unfold hst hmid
  iintro ⟨#HP, HO, H, Hr⟩ Hk
  iapply (wp_sendH m K c D s p h.isLt (lev_sendH D s p h) (ev_sendH D s p h)) $$ [HO H]
  · isplitr; · iexact HP
    isplitl [HO]; · iexact HO
    iexact H
  iintro ⟨HO, H⟩
  iapply Hk
  isplitl [HO]; · iexact HO
  isplitl [H]; · iexact H
  iexact Hr

/-- The addition of a received half in a step of the reduction, and the credit given after it. -/
theorem st_add (D s : Bool) (p : Fin 2) (h : Fin 3) {P : Pg F} {Q : PUnit → sProp 𝕄} :
    iprop(pers m K ∗ ow c (bh p h + (4 + D.toNat + 2 * s.toNat)) ∗ hmid c D s p h ∗ fp c (bW D) fullShare (mmB m D p c (k4 (h + 1))))
      ⊢ iprop((iprop(ow c (bh p h + (4 + D.toNat + 2 * s.toNat) + 1) ∗ hst m c D s p (h + 1) ∗ fp c (bW D) fullShare (mmB m D p c (k4 (h + 1))))
          -∗ run c P Q) -∗ run c (addH D s c P) Q) := by
  unfold hst hmid preH postH
  iintro ⟨#HP, HO, ⟨⟨Hc, Hs, Ht⟩, Hr, Hg⟩, HW⟩ Hk
  iapply (wp_addH m K c D s p h.isLt (lev_addH D s p h) (ev_addH D s p h)) $$ [HO Hs Hr Hg HW]
  · isplitr; · iexact HP
    isplitl [HO]; · iexact HO
    isplitl [Hs Hr Hg]
    · unfold preA
      isplitl [Hr]; · iexact Hr
      isplitl [Hs]; · iexact Hs
      iexact Hg
    iexact HW
  unfold postA
  rw [rR_succ, rS_succ]
  iintro ⟨HO, ⟨Hb, Hr, Hs, Hg⟩, HW⟩
  iapply Hk
  isplitl [HO]; · iexact HO
  isplitr [HW]
  · isplitl [Hb Hc Hs Ht]
    · isplitl [Hb]; · iexact Hb
      isplitl [Hc]; · iexact Hc
      isplitl [Hs]; · iexact Hs
      iexact Ht
    isplitl [Hr]; · iexact Hr
    iexact Hg
  iexact HW

/-- Everything a device needs for the operands. -/
def ops : sProp 𝕄 := iprop(rX m c ∗ rY m c)

/-- A device's own part of a chunk is computed into a buffer. -/
theorem st_compute (D : Bool) (p : Fin 2) (k : Fin 4) (b : Memref sig .tc .vmem S1024x2048 .bf16) (hb : b.IsWhole) {n : ℕ}
    {P : Pg F} {Q : PUnit → sProp 𝕄} :
    iprop(pers m K ∗ ow c n ∗ ops m c ∗ fx c b)
      ⊢ iprop((iprop(ow c n ∗ ops m c ∗ fp c b fullShare (mmB m D p c k)) -∗ run c P Q) -∗ run c (compute D p c k b hb P) Q) := by
  unfold ops
  iintro ⟨#HP, HO, ⟨HX, HY⟩, Hb⟩ Hk
  iapply (wp_compute m K c D p k b hb) $$ [HO HX HY Hb]
  · isplitr; · iexact HP
    isplitl [HO]; · iexact HO
    isplitl [HX]; · iexact HX
    isplitl [HY]; · iexact HY
    iexact Hb
  iintro ⟨HO, HX, HY, Hb⟩
  iapply Hk
  isplitl [HO]; · iexact HO
  isplitr [Hb]
  · isplitl [HX]; · iexact HX
    iexact HY
  iexact Hb

/-- One direction before step `h` of the reduction. -/
def dst (D : Bool) (p : Fin 2) (h : ℕ) : sProp 𝕄 := iprop(hst m c D false p h ∗ hst m c D true p h ∗ fx c (bW D))

/-- A step of the reduction. -/
theorem st_hstep (p : Fin 2) (h : Fin 3) {P : Pg F} {Q : PUnit → sProp 𝕄} :
    iprop(pers m K ∗ ow c (bh p h) ∗ ops m c ∗ dst m c false p h ∗ dst m c true p h)
      ⊢ iprop((iprop(ow c (bh p (h + 1)) ∗ ops m c ∗ dst m c false p (h + 1) ∗ dst m c true p (h + 1)) -∗ run c P Q)
          -∗ run c (hstep p c (k4 (h + 1)) P) Q) := by
  unfold hstep dst
  iintro ⟨#HP, HO, Hops, ⟨H00, H01, HW0⟩, ⟨H10, H11, HW1⟩⟩ Hk
  iapply (st_send m K c false false p h) $$ [HO H00]
  · isplitr; · iexact HP
    isplitl [HO]; · iexact HO
    iexact H00
  iintro ⟨HO, H00⟩
  iapply (st_send m K c false true p h) $$ [HO H01]
  · isplitr; · iexact HP
    isplitl [HO]; · iexact HO
    iexact H01
  iintro ⟨HO, H01⟩
  iapply (st_send m K c true false p h) $$ [HO H10]
  · isplitr; · iexact HP
    isplitl [HO]; · iexact HO
    iexact H10
  iintro ⟨HO, H10⟩
  iapply (st_send m K c true true p h) $$ [HO H11]
  · isplitr; · iexact HP
    isplitl [HO]; · iexact HO
    iexact H11
  iintro ⟨HO, H11⟩
  iapply (st_compute m K c false p (k4 (h + 1)) (bW false) (whole_bW _)) $$ [HO Hops HW0]
  · isplitr; · iexact HP
    isplitl [HO]; · iexact HO
    isplitl [Hops]; · iexact Hops
    iexact HW0
  iintro ⟨HO, Hops, HW0⟩
  iapply (st_compute m K c true p (k4 (h + 1)) (bW true) (whole_bW _)) $$ [HO Hops HW1]
  · isplitr; · iexact HP
    isplitl [HO]; · iexact HO
    isplitl [Hops]; · iexact Hops
    iexact HW1
  iintro ⟨HO, Hops, HW1⟩
  iapply (st_add m K c false false p h) $$ [HO H00 HW0]
  · isplitr; · iexact HP
    isplitl [HO]; · iexact HO
    isplitl [H00]; · iexact H00
    iexact HW0
  iintro ⟨HO, H00, HW0⟩
  iapply (st_add m K c true false p h) $$ [HO H10 HW1]
  · isplitr; · iexact HP
    isplitl [HO]; · iexact HO
    isplitl [H10]; · iexact H10
    iexact HW1
  iintro ⟨HO, H10, HW1⟩
  iapply (st_add m K c false true p h) $$ [HO H01 HW0]
  · isplitr; · iexact HP
    isplitl [HO]; · iexact HO
    isplitl [H01]; · iexact H01
    iexact HW0
  iintro ⟨HO, H01, HW0⟩
  iapply (st_add m K c true true p h) $$ [HO H11 HW1]
  · isplitr; · iexact HP
    isplitl [HO]; · iexact HO
    isplitl [H11]; · iexact H11
    iexact HW1
  iintro ⟨HO, H11, HW1⟩
  iapply Hk
  isplitl [HO]; · iexact HO
  isplitl [Hops]; · iexact Hops
  isplitl [H00 H01 HW0]
  · isplitl [H00]; · iexact H00
    isplitl [H01]; · iexact H01
    iapply (fp_fx c (bW false) _); iexact HW0
  isplitl [H10]; · iexact H10
  isplitl [H11]; · iexact H11
  iapply (fp_fx c (bW true) _); iexact HW1

end Stages

end Cert.Proof.Ring
-- ==== Proof.Turns.lean ====
module

public import proofs.«01_k».proof.Proof.Stages

/-! # The stages of the gather

The phases of the gather in one direction, each as a step from one stage to the next. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Turns
variable (m : (ℓ : Loc nD τ sig) → Buf (Elt F) ℓ) (K : Dev nD × Fin 15 → ℕ) (c : Dev nD)

/-- What a device is at in one direction but for its own whole sends: the credits it takes (at `ca`), the receipts
(at `ra` and `rb`) and the sends it pays for (at `pa` and `pb`), the credits it gives (at `pc`), the work buffer's
credits taken (at `w`) and given (at `pw`), and its own sends of the second half (at `sb`). -/
def core (D : Bool) (ca ra pa rb pb pc w pw sb : ℕ) : sProp 𝕄 :=
  iprop((ws c D (.cred false) ca ∗ ws c D (.cred true) ca) ∗ (ws c D (.recv false) ra ∗ ps c D (.recv false) pa)
    ∗ (ws c D (.recv true) rb ∗ ps c D (.recv true) pb) ∗ (ps c D (.cred false) pc ∗ ps c D (.cred true) pc)
    ∗ (ws c D .credW w ∗ ps c D .credW pw) ∗ ss c D true sb)

/-- The source has reached round `r` of its credits of the receive buffer. -/
def srcR (D : Bool) (r : ℕ) : sProp 𝕄 := iprop(rch (src D c) D (.cred false) r ∗ rch (src D c) D (.cred true) r)

/-- The reduction is over; the work buffer's credit is to be given. -/
def t0 (D : Bool) (p : Fin 2) : sProp 𝕄 :=
  iprop(dst m c D p 3 ∗ (ws c D .credW p.val ∗ ps c D .credW p.val) ∗ rch (src D c) D .credW p.val)
/-- The reduced block is in the accumulator. -/
def t1 (D : Bool) (p : Fin 2) : sProp 𝕄 :=
  iprop(core c D (rC p 3) (rR false p 3) (rR false p 3) (rR true p 3) (rR true p 3) (rC p 4) p.val (p.val + 1) (rS true p 3)
    ∗ ss c D false (rS false p 3) ∗ fp c (bS D) fullShare (gath m D p c 3))
/-- It is on its way to the target. -/
def t2 (D : Bool) (p : Fin 2) : sProp 𝕄 :=
  iprop(core c D (rC p 4) (rR false p 3) (rR false p 4) (rR true p 3) (rR true p 3) (rC p 4) p.val (p.val + 1) (rS true p 3)
    ∗ sw c D false (rS false p 3))
/-- The source's block has come. -/
def t3 (D : Bool) (p : Fin 2) : sProp 𝕄 :=
  iprop((core c D (rC p 4) (rR false p 4) (rR false p 4) (rR true p 3) (rR true p 3) (rC p 4) p.val (p.val + 1) (rS true p 3)
    ∗ srcR c D (rC p 4)) ∗ fp c (bR D) fullShare (gath m D p c 0) ∗ sw c D false (rS false p 3))
/-- The device's own block has gone. -/
def t4 (D : Bool) (p : Fin 2) : sProp 𝕄 :=
  iprop((core c D (rC p 4) (rR false p 4) (rR false p 4) (rR true p 3) (rR true p 3) (rC p 4) p.val (p.val + 1) (rS true p 3)
    ∗ srcR c D (rC p 4) ∗ fx c (bS D)) ∗ fp c (bR D) fullShare (gath m D p c 0) ∗ ss c D false (rS false p 4))
/-- The source's block is on its way on. -/
def t5 (D : Bool) (p : Fin 2) : sProp 𝕄 :=
  iprop((core c D (rC p 4) (rR false p 4) (rR false p 4) (rR true p 3) (rR true p 4) (rC p 4) (p.val + 1) (p.val + 1) (rS true p 3)
    ∗ srcR c D (rC p 4) ∗ fx c (bS D)) ∗ sw c D false (rS false p 4))
/-- It has gone, and the receive buffer is given back. -/
def t6 (D : Bool) (p : Fin 2) : sProp 𝕄 :=
  iprop((core c D (rC p 4) (rR false p 4) (rR false p 4) (rR true p 3) (rR true p 4) (rC p 5) (p.val + 1) (p.val + 1) (rS true p 3)
    ∗ fx c (bS D)) ∗ ss c D false (rS false p 5))
/-- The second block has come, into the work buffer. -/
def t7 (D : Bool) (p : Fin 2) : sProp 𝕄 :=
  iprop((core c D (rC p 4) (rR false p 4) (rR false p 4) (rR true p 4) (rR true p 4) (rC p 5) (p.val + 1) (p.val + 1) (rS true p 3)
    ∗ fx c (bS D) ∗ rch (src D c) D .credW (p.val + 1)) ∗ ss c D false (rS false p 5) ∗ fp c (bW D) fullShare (gath m D p c 1))
/-- It is on its way on. -/
def t8 (D : Bool) (p : Fin 2) : sProp 𝕄 :=
  iprop((core c D (rC p 5) (rR false p 4) (rR false p 5) (rR true p 4) (rR true p 4) (rC p 5) (p.val + 1) (p.val + 1) (rS true p 3)
    ∗ fx c (bS D) ∗ rch (src D c) D .credW (p.val + 1)) ∗ sw c D false (rS false p 5))
/-- It has gone. -/
def t9 (D : Bool) (p : Fin 2) : sProp 𝕄 :=
  iprop((core c D (rC p 5) (rR false p 4) (rR false p 5) (rR true p 4) (rR true p 4) (rC p 5) (p.val + 1) (p.val + 1) (rS true p 3)
    ∗ fx c (bS D) ∗ rch (src D c) D .credW (p.val + 1)) ∗ ss c D false (rS false p 6) ∗ fx c (bW D))
/-- The third block has come. -/
def t10 (D : Bool) (p : Fin 2) : sProp 𝕄 :=
  iprop((core c D (rC p 5) (rR false p 5) (rR false p 5) (rR true p 4) (rR true p 4) (rC p 5) (p.val + 1) (p.val + 1) (rS true p 3)
    ∗ fx c (bS D) ∗ rch (src D c) D .credW (p.val + 1)) ∗ ss c D false (rS false p 6) ∗ fx c (bW D) ∗ srcR c D (rC p 5))

/-- The credit of the work buffer is given. -/
theorem tn_giveW (D : Bool) (p : Fin 2) {P : Pg F} {Q : PUnit → sProp 𝕄} :
    iprop(pers m K ∗ ow c (bp p + 24 + D.toNat) ∗ t0 m c D p)
      ⊢ iprop((iprop(ow c (bp p + 24 + D.toNat + 1) ∗ t1 m c D p) -∗ run c P Q) -∗ run c (giveC (src D c) (sCredW D) P) Q) := by
  unfold t0 dst hst preH
  iintro ⟨#HP, HO, ⟨⟨⟨Ha, Ca, Sa, Pa⟩, Ra, Ga⟩, ⟨⟨Hb, Cb, Sb, Pb⟩, Rb, Gb⟩, HW⟩, ⟨Cw, Gw⟩, Hr⟩ Hk
  ihave Rb := (ws_rch c D _ _) $$ Rb
  icases Rb with ⟨Rb, #Hrb⟩
  iapply (wp_give m K c D .credW (q := sCredW D) rfl rfl (by show p.val < 2; exact p.isLt) (ev_giveW D p)) $$ [HO Gw Hr HW]
  · isplitr; · iexact HP
    isplitl [HO]; · iexact HO
    isplitl [Gw]; · iexact Gw
    isplitl [Hr]; · iexact Hr
    rw [pay_credW, show payee D .credW c = src D c from rfl, tgt_src]
    isplitl [HW]; · iexact HW
    iexact Hrb
  iintro ⟨HO, Gw⟩
  iapply Hk
  isplitl [HO]; · iexact HO
  unfold t1 core
  isplitl [Ca Sb Pa Ra Ga Cb Pb Rb Gb Cw Gw]
  · isplitl [Ca Cb]
    · isplitl [Ca]; · iexact Ca
      iexact Cb
    isplitl [Ra Pa]
    · isplitl [Ra]; · iexact Ra
      iexact Pa
    isplitl [Rb Pb]
    · isplitl [Rb]; · iexact Rb
      iexact Pb
    isplitl [Ga Gb]
    · isplitl [Ga]; · iexact Ga
      iexact Gb
    isplitl [Cw Gw]
    · isplitl [Cw]; · iexact Cw
      iexact Gw
    iexact Sb
  isplitl [Sa]; · iexact Sa
  rw [acc_fin]
  iapply (fp_halves c (bS D) fullShare _).2
  isplitl [Ha]; · iexact Ha
  iexact Hb

/-- The first gathering send: of the device's own chunk, from the sending buffer; a share of it stays to be stored. -/
theorem tn_send0 (D : Bool) (p : Fin 2) {P : Pg F} {Q : PUnit → sProp 𝕄} :
    iprop(pers m K ∗ ow c (bp p + 26 + D.toNat) ∗ t1 m c D p)
      ⊢ iprop((iprop(ow c (bp p + 26 + D.toNat + 1) ∗ t2 c D p ∗ fp c (bS D) fullShare.right (gath m D p c 3)) -∗ run c P Q)
          -∗ run c (send0 D c (bS D) (whole_bS D) P) Q) := by
  unfold t1 t2 core send0
  iintro ⟨#HP, HO, ⟨⟨Ca, Cb⟩, ⟨Ra, Pa⟩, Hrest⟩, Sa, Hf⟩ Hk
  iapply (wp_takeR m K c D p (j := 3) (le_refl _) (by decide) (lev_send0 D false p) (lev_send0 D true p)) $$ [HO Ca Cb]
  · isplitr; · iexact HP
    isplitl [HO]; · iexact HO
    isplitl [Ca]; · iexact Ca
    iexact Cb
  iintro ⟨HO, Ca, Cb, Hx, Hr⟩
  ihave Ca := (ws_rch c D _ _) $$ Ca
  icases Ca with ⟨Ca, #Hca⟩
  ihave Cb := (ws_rch c D _ _) $$ Cb
  icases Cb with ⟨Cb, #Hcb⟩
  iapply (wp_sendF m K c D false p (j := 3) 3 (bS D) (bR D) (whole_bS D) (whole_bR D) (le_refl _) (by decide) (gath m D p c 3)
      iprop(rch c D (.cred false) (rC p 3 + 1) ∗ rch c D (.cred true) (rC p 3 + 1)) (credit_R D) (amt_recvF p (le_refl _) (by decide))
      (rR_lt false p (by decide)) (ev_send0 D p) (pay_send3 m D c p)
      (by rw [pay_recv3, src_tgt, gath_tgt0])) $$ [HO Hf Hx Sa Pa Hr]
  · isplitr; · iexact HP
    isplitl [HO]; · iexact HO
    isplitl [Hf]; · iexact Hf
    isplitl [Hx]; · iexact Hx
    isplitr
    · isplitr; · iexact Hca
      iexact Hcb
    isplitl [Sa]; · iexact Sa
    isplitl [Pa]; · iexact Pa
    iexact Hr
  iintro ⟨HO, Hf, Sa, Pa⟩
  iapply Hk
  isplitl [HO]; · iexact HO
  isplitr [Hf]
  · isplitr [Sa]
    · isplitl [Ca Cb]
      · isplitl [Ca]; · iexact Ca
        iexact Cb
      isplitl [Ra Pa]
      · isplitl [Ra]; · iexact Ra
        iexact Pa
      iexact Hrest
    iexact Sa
  iexact Hf

/-- The first gathering receipt: the source's own chunk is in the receiving buffer. -/
theorem tn_recv0 (D : Bool) (p : Fin 2) {P : Pg F} {Q : PUnit → sProp 𝕄} :
    iprop(pers m K ∗ ow c (bp p + 28) ∗ t2 c D p)
      ⊢ iprop((iprop(ow c (bp p + 28) ∗ t3 m c D p) -∗ run c P Q)
          -∗ run c (waitF (sRecv D false) (bS D) (bR D) (whole_bS _) (whole_bR _) P) Q) := by
  unfold t2 t3 core srcR
  iintro ⟨#HP, HO, ⟨HC, ⟨Ra, Pa⟩, Hrest⟩, Sa⟩ Hk
  iapply (wp_recvF m K c D false (bS D) (bR D) (whole_bS _) (whole_bR _) (credit_R D) (amt_recvF p (le_refl _) (by decide))
      (rR_lt false p (by decide)) (lev_recv0 D p)) $$ [HO Ra]
  · isplitr; · iexact HP
    isplitl [HO]; · iexact HO
    iexact Ra
  rw [pay_recv3]
  iintro ⟨HO, Ra, Hf, Hr⟩
  iapply Hk
  isplitl [HO]; · iexact HO
  isplitr [Sa Hf]
  · isplitr [Hr]
    · isplitl [HC]; · iexact HC
      isplitl [Ra Pa]
      · isplitl [Ra]; · iexact Ra
        iexact Pa
      iexact Hrest
    iexact Hr
  isplitl [Hf]; · iexact Hf
  iexact Sa

/-- The first gathering send is over: the sending buffer is whole again. -/
theorem tn_sent0 (D : Bool) (p : Fin 2) {n : ℕ} {P : Pg F} {Q : PUnit → sProp 𝕄} :
    iprop(pers m K ∗ ow c n ∗ t3 m c D p ∗ fp c (bS D) fullShare.right (gath m D p c 3))
      ⊢ iprop((iprop(ow c n ∗ t4 m c D p) -∗ run c P Q)
          -∗ run c (waitF (sSend D false) (bR D) (bS D) (whole_bR _) (whole_bS _) P) Q) := by
  unfold t3 t4
  iintro ⟨#HP, HO, ⟨⟨HC, Hr⟩, Hf, Sa⟩, Hs⟩ Hk
  iapply (wp_sentF m K c D p (j := 3) (bR D) (bS D) (bS D) (whole_bR _) (whole_bS _) (le_refl _) (by decide) _ (credit_S D) (pay_send3 m D c p)) $$ [HO Sa Hs]
  · isplitr; · iexact HP
    isplitl [HO]; · iexact HO
    isplitl [Sa]; · iexact Sa
    iexact Hs
  iintro ⟨HO, Sa, Hs⟩
  iapply Hk
  isplitl [HO]; · iexact HO
  isplitr [Sa Hf]
  · isplitl [HC]; · iexact HC
    isplitl [Hr]; · iexact Hr
    iapply (fp_fx c (bS D) _); iexact Hs
  isplitl [Hf]; · iexact Hf
  iexact Sa

/-- The second gathering send, from the receiving buffer to the target's work buffer. -/
theorem tn_send1 (D : Bool) (p : Fin 2) {P : Pg F} {Q : PUnit → sProp 𝕄} :
    iprop(pers m K ∗ ow c (bp p + 28 + D.toNat) ∗ t4 m c D p)
      ⊢ iprop((iprop(ow c (bp p + 28 + D.toNat + 1) ∗ t5 c D p ∗ fp c (bR D) fullShare.right (gath m D p c 0)) -∗ run c P Q)
          -∗ run c (waitC (sCredW D) 1#32 (sendF D true c (bR D) (bW D) (whole_bR D) (whole_bW D) P)) Q) := by
  unfold t4 t5 core
  iintro ⟨#HP, HO, ⟨⟨HC, HA, ⟨Rb, Pb⟩, HG, ⟨Cw, Gw⟩, Sb⟩, Hrest⟩, Hf, Sa⟩ Hk
  iapply (wp_waitCredW m K c D (r := p.val) (by show p.val < 2; exact p.isLt) (lev_send1 D p)) $$ [HO Cw]
  · isplitr; · iexact HP
    isplitl [HO]; · iexact HO
    iexact Cw
  rw [pay_credW]
  iintro ⟨HO, Cw, Hx, Hr⟩
  ihave Cw := (ws_rch c D _ _) $$ Cw
  icases Cw with ⟨Cw, #Hcw⟩
  iapply (wp_sendF m K c D true p (j := 4) (r₂ := rR true p 3) 0 (bR D) (bW D) (whole_bR D) (whole_bW D) (by decide) (by decide) (gath m D p c 0)
      (rch c D .credW (p.val + 1)) (credit_W D) (amt_recvW p)
      (rR_lt true p (by decide)) (ev_send1 D p) (pay_send4 m D c p)
      (by rw [pay_recvW, src_tgt, gath_tgt1])) $$ [HO Hf Hx Sa Pb Hr]
  · isplitr; · iexact HP
    isplitl [HO]; · iexact HO
    isplitl [Hf]; · iexact Hf
    isplitl [Hx]; · iexact Hx
    isplitr; · iexact Hcw
    isplitl [Sa]; · iexact Sa
    isplitl [Pb]; · iexact Pb
    iexact Hr
  iintro ⟨HO, Hf, Sa, Pb⟩
  iapply Hk
  isplitl [HO]; · iexact HO
  isplitr [Hf]
  · isplitr [Sa]
    · isplitr [Hrest]
      · isplitl [HC]; · iexact HC
        isplitl [HA]; · iexact HA
        isplitl [Rb Pb]
        · isplitl [Rb]; · iexact Rb
          iexact Pb
        isplitl [HG]; · iexact HG
        isplitl [Cw Gw]
        · isplitl [Cw]; · iexact Cw
          iexact Gw
        iexact Sb
      iexact Hrest
    iexact Sa
  iexact Hf

/-- The second gathering send is over, and the receiving buffer is credited to the source. -/
theorem tn_sent1 (D : Bool) (p : Fin 2) {P : Pg F} {Q : PUnit → sProp 𝕄} :
    iprop(pers m K ∗ ow c (bp p + 30 + 2 * D.toNat) ∗ t5 c D p ∗ fp c (bR D) fullShare.right (gath m D p c 0))
      ⊢ iprop((iprop(ow c (bp p + 30 + 2 * D.toNat + 2) ∗ t6 c D p) -∗ run c P Q)
          -∗ run c (waitF (sSend D false) (bW D) (bR D) (whole_bW _) (whole_bR _) (giveR D c P)) Q) := by
  unfold t5 t6 core srcR
  iintro ⟨#HP, HO, ⟨⟨⟨HC, ⟨Ra, Pa⟩, HB, ⟨Ga, Gb⟩, Hrest⟩, ⟨Hra, Hrb⟩, HS⟩, Sa⟩, Hf⟩ Hk
  iapply (wp_sentF m K c D p (j := 4) (bW D) (bR D) (bR D) (whole_bW _) (whole_bR _) (by decide) (by decide) _ (credit_R D) (pay_send4 m D c p)) $$ [HO Sa Hf]
  · isplitr; · iexact HP
    isplitl [HO]; · iexact HO
    isplitl [Sa]; · iexact Sa
    iexact Hf
  iintro ⟨HO, Sa, Hf⟩
  ihave Ra := (ws_rch c D _ _) $$ Ra
  icases Ra with ⟨Ra, #Hrr⟩
  iapply (wp_giveR m K c D (r := rC p 4) (by have := p.isLt; show 5 * p.val + 4 < 10; omega) (ev_give1 D false p) (ev_give1 D true p) iprop(emp)
      (by rw [pay_credB m D (src D c) p (by decide) (by decide), tgt_src])) $$ [HO Ga Gb Hra Hrb Hf]
  · isplitr; · iexact HP
    isplitl [HO]; · iexact HO
    isplitl [Ga]; · iexact Ga
    isplitl [Gb]; · iexact Gb
    isplitl [Hra]; · iexact Hra
    isplitl [Hrb]; · iexact Hrb
    isplitl [Hf]; · iapply (fp_fx c (bR D) _); iexact Hf
    isplitr; · iexact Hrr
    iempintro
  iintro ⟨HO, Ga, Gb⟩
  iapply Hk
  isplitl [HO]; · iexact HO
  isplitr [Sa]
  · isplitr [HS]
    · isplitl [HC]; · iexact HC
      isplitl [Ra Pa]
      · isplitl [Ra]; · iexact Ra
        iexact Pa
      isplitl [HB]; · iexact HB
      isplitl [Ga Gb]
      · isplitl [Ga]; · iexact Ga
        iexact Gb
      iexact Hrest
    iexact HS
  iexact Sa

/-- The second gathering receipt: the source's first chunk is in the work buffer. -/
theorem tn_recv1 (D : Bool) (p : Fin 2) {P : Pg F} {Q : PUnit → sProp 𝕄} :
    iprop(pers m K ∗ ow c (bp p + 34) ∗ t6 c D p)
      ⊢ iprop((iprop(ow c (bp p + 34) ∗ t7 m c D p) -∗ run c P Q)
          -∗ run c (waitF (sRecv D true) (bR D) (bW D) (whole_bR _) (whole_bW _) P) Q) := by
  unfold t6 t7 core
  iintro ⟨#HP, HO, ⟨⟨HC, HA, ⟨Rb, Pb⟩, Hrest⟩, HS⟩, Sa⟩ Hk
  iapply (wp_recvF m K c D true (bR D) (bW D) (whole_bR _) (whole_bW _) (credit_W D) (amt_recvW p)
      (rR_lt true p (by decide)) (lev_recv1 D p)) $$ [HO Rb]
  · isplitr; · iexact HP
    isplitl [HO]; · iexact HO
    iexact Rb
  rw [pay_recvW]
  iintro ⟨HO, Rb, Hf, Hr⟩
  iapply Hk
  isplitl [HO]; · iexact HO
  isplitr [Sa Hf]
  · isplitr [Hr HS]
    · isplitl [HC]; · iexact HC
      isplitl [HA]; · iexact HA
      isplitl [Rb Pb]
      · isplitl [Rb]; · iexact Rb
        iexact Pb
      iexact Hrest
    isplitl [HS]; · iexact HS
    iexact Hr
  isplitl [Sa]; · iexact Sa
  iexact Hf

/-- The third gathering send, from the work buffer to the target's receiving buffer. -/
theorem tn_send2 (D : Bool) (p : Fin 2) {P : Pg F} {Q : PUnit → sProp 𝕄} :
    iprop(pers m K ∗ ow c (bp p + 34 + D.toNat) ∗ t7 m c D p)
      ⊢ iprop((iprop(ow c (bp p + 34 + D.toNat + 1) ∗ t8 c D p ∗ fp c (bW D) fullShare.right (gath m D p c 1)) -∗ run c P Q)
          -∗ run c (send0 D c (bW D) (whole_bW D) P) Q) := by
  unfold t7 t8 core send0
  iintro ⟨#HP, HO, ⟨⟨⟨Ca, Cb⟩, ⟨Ra, Pa⟩, Hrest⟩, HS⟩, Sa, Hf⟩ Hk
  iapply (wp_takeR m K c D p (j := 4) (by decide) (by decide) (lev_send2 D false p) (lev_send2 D true p)) $$ [HO Ca Cb]
  · isplitr; · iexact HP
    isplitl [HO]; · iexact HO
    isplitl [Ca]; · iexact Ca
    iexact Cb
  iintro ⟨HO, Ca, Cb, Hx, Hr⟩
  ihave Ca := (ws_rch c D _ _) $$ Ca
  icases Ca with ⟨Ca, #Hca⟩
  ihave Cb := (ws_rch c D _ _) $$ Cb
  icases Cb with ⟨Cb, #Hcb⟩
  iapply (wp_sendF m K c D false p (j := 5) (r₂ := rR false p 4) 1 (bW D) (bR D) (whole_bW D) (whole_bR D) (by decide) (by decide) (gath m D p c 1)
      iprop(rch c D (.cred false) (rC p 4 + 1) ∗ rch c D (.cred true) (rC p 4 + 1)) (credit_R D) (amt_recvF p (by decide) (by decide))
      (by have := p.isLt; show 5 * p.val + 4 < 10; omega) (ev_send2 D p) (pay_send5 m D c p)
      (by rw [pay_recv4, src_tgt, gath_tgt2])) $$ [HO Hf Hx Sa Pa Hr]
  · isplitr; · iexact HP
    isplitl [HO]; · iexact HO
    isplitl [Hf]; · iexact Hf
    isplitl [Hx]; · iexact Hx
    isplitr
    · isplitr; · iexact Hca
      iexact Hcb
    isplitl [Sa]; · iexact Sa
    isplitl [Pa]; · iexact Pa
    iexact Hr
  iintro ⟨HO, Hf, Sa, Pa⟩
  iapply Hk
  isplitl [HO]; · iexact HO
  isplitr [Hf]
  · isplitr [Sa]
    · isplitr [HS]
      · isplitl [Ca Cb]
        · isplitl [Ca]; · iexact Ca
          iexact Cb
        isplitl [Ra Pa]
        · isplitl [Ra]; · iexact Ra
          iexact Pa
        iexact Hrest
      iexact HS
    iexact Sa
  iexact Hf

/-- The third gathering send is over: the work buffer is whole again. -/
theorem tn_sent2 (D : Bool) (p : Fin 2) {n : ℕ} {P : Pg F} {Q : PUnit → sProp 𝕄} :
    iprop(pers m K ∗ ow c n ∗ t8 c D p ∗ fp c (bW D) fullShare.right (gath m D p c 1))
      ⊢ iprop((iprop(ow c n ∗ t9 c D p) -∗ run c P Q)
          -∗ run c (waitF (sSend D false) (bR D) (bW D) (whole_bR _) (whole_bW _) P) Q) := by
  unfold t8 t9
  iintro ⟨#HP, HO, ⟨HC, Sa⟩, Hf⟩ Hk
  iapply (wp_sentF m K c D p (j := 5) (bR D) (bW D) (bW D) (whole_bR _) (whole_bW _) (by decide) (by decide) _ (credit_W D) (pay_send5 m D c p)) $$ [HO Sa Hf]
  · isplitr; · iexact HP
    isplitl [HO]; · iexact HO
    isplitl [Sa]; · iexact Sa
    iexact Hf
  iintro ⟨HO, Sa, Hf⟩
  iapply Hk
  isplitl [HO]; · iexact HO
  isplitl [HC]; · iexact HC
  isplitl [Sa]; · iexact Sa
  iapply (fp_fx c (bW D) _); iexact Hf

/-- The third gathering receipt: the source's second chunk is in the receiving buffer. -/
theorem tn_recv2 (D : Bool) (p : Fin 2) {P : Pg F} {Q : PUnit → sProp 𝕄} :
    iprop(pers m K ∗ ow c (bp p + 36) ∗ t9 c D p)
      ⊢ iprop((iprop(ow c (bp p + 36) ∗ t10 c D p ∗ fp c (bR D) fullShare (gath m D p c 2)) -∗ run c P Q)
          -∗ run c (waitF (sRecv D false) (bW D) (bR D) (whole_bW _) (whole_bR _) P) Q) := by
  unfold t9 t10 core srcR
  iintro ⟨#HP, HO, ⟨⟨HC, ⟨Ra, Pa⟩, Hrest⟩, HS⟩, Sa, HW⟩ Hk
  iapply (wp_recvF m K c D false (bW D) (bR D) (whole_bW _) (whole_bR _) (credit_R D) (amt_recvF p (by decide) (by decide))
      (by have := p.isLt; show 5 * p.val + 4 < 10; omega) (lev_recv2 D p)) $$ [HO Ra]
  · isplitr; · iexact HP
    isplitl [HO]; · iexact HO
    iexact Ra
  rw [pay_recv4]
  iintro ⟨HO, Ra, Hf, Hr⟩
  iapply Hk
  isplitl [HO]; · iexact HO
  isplitr [Hf]
  · isplitr [Sa HW Hr]
    · isplitr [HS]
      · isplitl [HC]; · iexact HC
        isplitl [Ra Pa]
        · isplitl [Ra]; · iexact Ra
          iexact Pa
        iexact Hrest
      iexact HS
    isplitl [Sa]; · iexact Sa
    isplitl [HW]; · iexact HW
    iexact Hr
  iexact Hf

end Turns

end Cert.Proof.Ring
-- ==== Proof.Pass.lean ====
module

public import proofs.«01_k».proof.Proof.Turns

/-! # A pass

One pass over half of each direction's columns: the reduction around the ring, then the gather, with every gathered
block put in the result. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Pass
variable (m : (ℓ : Loc nD τ sig) → Buf (Elt F) ℓ) (K : Dev nD × Fin 15 → ℕ) (c : Dev nD)

/-- One direction at the start of pass `p`: the receive buffer is lent to the source. -/
def passIn (D : Bool) (p : Fin 2) : sProp 𝕄 :=
  iprop(core c D (rC p 0) (rR false p 0) (rR false p 0) (rR true p 0) (rR true p 0) (rC p 1) p.val p.val (rS true p 0)
    ∗ ss c D false (rS false p 0) ∗ rch (src D c) D .credW p.val ∗ fx c (bS D) ∗ fx c (bW D))
/-- The same with the device's own part of the first block computed. -/
def passOn (D : Bool) (p : Fin 2) : sProp 𝕄 :=
  iprop(dst m c D p 0 ∗ (ws c D .credW p.val ∗ ps c D .credW p.val) ∗ rch (src D c) D .credW p.val)

/-- The first block's part, computed into the accumulator. -/
theorem ps_first (D : Bool) (p : Fin 2) {n : ℕ} {P : Pg F} {Q : PUnit → sProp 𝕄} :
    iprop(pers m K ∗ ow c n ∗ ops m c ∗ passIn c D p)
      ⊢ iprop((iprop(ow c n ∗ ops m c ∗ passOn m c D p) -∗ run c P Q) -∗ run c (compute D p c 0 (bS D) (whole_bS D) P) Q) := by
  unfold passIn passOn core dst hst preH
  iintro ⟨#HP, HO, Hops, ⟨⟨Ca, Cb⟩, ⟨Ra, Pa⟩, ⟨Rb, Pb⟩, ⟨Ga, Gb⟩, HCW, Sb⟩, Sa, Hr, HS, HW⟩ Hk
  iapply (st_compute m K c D p 0 (bS D) (whole_bS D)) $$ [HO Hops HS]
  · isplitr; · iexact HP
    isplitl [HO]; · iexact HO
    isplitl [Hops]; · iexact Hops
    iexact HS
  iintro ⟨HO, Hops, HS⟩
  ihave HS := (fp_halves c (bS D) fullShare _).1 $$ HS
  icases HS with ⟨Ha, Hb⟩
  iapply Hk
  isplitl [HO]; · iexact HO
  isplitl [Hops]; · iexact Hops
  isplitr [HCW Hr]
  · isplitl [Ha Ca Sa Pa Ra Ga]
    · isplitl [Ha Ca Sa Pa]
      · isplitl [Ha]; · iexact Ha
        isplitl [Ca]; · iexact Ca
        isplitl [Sa]; · iexact Sa
        iexact Pa
      isplitl [Ra]; · iexact Ra
      iexact Ga
    isplitl [Hb Cb Sb Pb Rb Gb]
    · isplitl [Hb Cb Sb Pb]
      · isplitl [Hb]; · iexact Hb
        isplitl [Cb]; · iexact Cb
        isplitl [Sb]; · iexact Sb
        iexact Pb
      isplitl [Rb]; · iexact Rb
      iexact Gb
    iexact HW
  isplitl [HCW]; · iexact HCW
  iexact Hr

/-- The reduction of a pass, with the work buffers' credits given. -/
theorem ps_reduce (p : Fin 2) {P : Pg F} {Q : PUnit → sProp 𝕄} :
    iprop(pers m K ∗ ow c (bp p) ∗ ops m c ∗ passIn c false p ∗ passIn c true p)
      ⊢ iprop((iprop(ow c (bp p + 26) ∗ ops m c ∗ t1 m c false p ∗ t1 m c true p) -∗ run c P Q)
          -∗ run c (compute false p c 0 (bS false) (whole_bS _) <| compute true p c 0 (bS true) (whole_bS _) <|
              hstep p c 1 <| hstep p c 2 <| hstep p c 3 <|
              giveC (src false c) (sCredW false) <| giveC (src true c) (sCredW true) P) Q) := by
  iintro ⟨#HP, HO, Hops, H0, H1⟩ Hk
  iapply (ps_first m K c false p) $$ [HO Hops H0]
  · isplitr; · iexact HP
    isplitl [HO]; · iexact HO
    isplitl [Hops]; · iexact Hops
    iexact H0
  iintro ⟨HO, Hops, H0⟩
  iapply (ps_first m K c true p) $$ [HO Hops H1]
  · isplitr; · iexact HP
    isplitl [HO]; · iexact HO
    isplitl [Hops]; · iexact Hops
    iexact H1
  iintro ⟨HO, Hops, H1⟩
  unfold passOn
  icases H0 with ⟨H0, R0⟩
  icases H1 with ⟨H1, R1⟩
  iapply (st_hstep m K c p 0) $$ [HO Hops H0 H1]
  · isplitr; · iexact HP
    isplitl [HO]; · iexact HO
    isplitl [Hops]; · iexact Hops
    isplitl [H0]; · iexact H0
    iexact H1
  iintro ⟨HO, Hops, H0, H1⟩
  iapply (st_hstep m K c p 1) $$ [HO Hops H0 H1]
  · isplitr; · iexact HP
    isplitl [HO]; · iexact HO
    isplitl [Hops]; · iexact Hops
    isplitl [H0]; · iexact H0
    iexact H1
  iintro ⟨HO, Hops, H0, H1⟩
  iapply (st_hstep m K c p 2) $$ [HO Hops H0 H1]
  · isplitr; · iexact HP
    isplitl [HO]; · iexact HO
    isplitl [Hops]; · iexact Hops
    isplitl [H0]; · iexact H0
    iexact H1
  iintro ⟨HO, Hops, H0, H1⟩
  iapply (tn_giveW m K c false p) $$ [HO H0 R0]
  · isplitr; · iexact HP
    isplitl [HO]; · iexact HO
    unfold t0
    isplitl [H0]; · iexact H0
    iexact R0
  iintro ⟨HO, H0⟩
  iapply (tn_giveW m K c true p) $$ [HO H1 R1]
  · isplitr; · iexact HP
    isplitl [HO]; · iexact HO
    unfold t0
    isplitl [H1]; · iexact H1
    iexact R1
  iintro ⟨HO, H1⟩
  iapply Hk
  isplitl [HO]; · iexact HO
  isplitl [Hops]; · iexact Hops
  isplitl [H0]; · iexact H0
  iexact H1

/-- The first round of the gather. -/
theorem ps_gather0 (p : Fin 2) (Z : S4096x8192.Idx → Prop) {P : Pg F} {Q : PUnit → sProp 𝕄} :
    iprop(pers m K ∗ ow c (bp p + 26) ∗ rT c ∗ out m c Z ∗ t1 m c false p ∗ t1 m c true p)
      ⊢ iprop((iprop(ow c (bp p + 28) ∗ rT c ∗ out m c (fun i => (Z i ∨ inBlk false p c 3 i) ∨ inBlk true p c 3 i)
            ∗ t4 m c false p ∗ t4 m c true p) -∗ run c P Q) -∗ run c (gather0 p c P) Q) := by
  unfold gather0
  iintro ⟨#HP, HO, HT, Ho, H0, H1⟩ Hk
  iapply (tn_send0 m K c false p) $$ [HO H0]
  · isplitr; · iexact HP
    isplitl [HO]; · iexact HO
    iexact H0
  iintro ⟨HO, H0, B0⟩
  iapply (tn_send0 m K c true p) $$ [HO H1]
  · isplitr; · iexact HP
    isplitl [HO]; · iexact HO
    iexact H1
  iintro ⟨HO, H1, B1⟩
  iapply (wp_put m K c false p 3 (bS false) _ Z) $$ [HO B0 HT Ho]
  · isplitr; · iexact HP
    isplitl [HO]; · iexact HO
    isplitl [B0]; · iexact B0
    isplitl [HT]; · iexact HT
    iexact Ho
  iintro ⟨HO, B0, HT, Ho⟩
  iapply (wp_put m K c true p 3 (bS true) _ _) $$ [HO B1 HT Ho]
  · isplitr; · iexact HP
    isplitl [HO]; · iexact HO
    isplitl [B1]; · iexact B1
    isplitl [HT]; · iexact HT
    iexact Ho
  iintro ⟨HO, B1, HT, Ho⟩
  iapply (tn_recv0 m K c false p) $$ [HO H0]
  · isplitr; · iexact HP
    isplitl [HO]; · iexact HO
    iexact H0
  iintro ⟨HO, H0⟩
  iapply (tn_sent0 m K c false p) $$ [HO H0 B0]
  · isplitr; · iexact HP
    isplitl [HO]; · iexact HO
    isplitl [H0]; · iexact H0
    iexact B0
  iintro ⟨HO, H0⟩
  iapply (tn_recv0 m K c true p) $$ [HO H1]
  · isplitr; · iexact HP
    isplitl [HO]; · iexact HO
    iexact H1
  iintro ⟨HO, H1⟩
  iapply (tn_sent0 m K c true p) $$ [HO H1 B1]
  · isplitr; · iexact HP
    isplitl [HO]; · iexact HO
    isplitl [H1]; · iexact H1
    iexact B1
  iintro ⟨HO, H1⟩
  iapply Hk
  isplitl [HO]; · iexact HO
  isplitl [HT]; · iexact HT
  isplitl [Ho]; · iexact Ho
  isplitl [H0]; · iexact H0
  iexact H1

/-- The second round of the gather. -/
theorem ps_gather1 (p : Fin 2) (Z : S4096x8192.Idx → Prop) {P : Pg F} {Q : PUnit → sProp 𝕄} :
    iprop(pers m K ∗ ow c (bp p + 28) ∗ rT c ∗ out m c Z ∗ t4 m c false p ∗ t4 m c true p)
      ⊢ iprop((iprop(ow c (bp p + 34) ∗ rT c ∗ out m c (fun i => (Z i ∨ inBlk false p c 0 i) ∨ inBlk true p c 0 i)
            ∗ t7 m c false p ∗ t7 m c true p) -∗ run c P Q) -∗ run c (gather1 p c P) Q) := by
  unfold gather1
  iintro ⟨#HP, HO, HT, Ho, H0, H1⟩ Hk
  iapply (tn_send1 m K c false p) $$ [HO H0]
  · isplitr; · iexact HP
    isplitl [HO]; · iexact HO
    iexact H0
  iintro ⟨HO, H0, B0⟩
  iapply (tn_send1 m K c true p) $$ [HO H1]
  · isplitr; · iexact HP
    isplitl [HO]; · iexact HO
    iexact H1
  iintro ⟨HO, H1, B1⟩
  iapply (wp_put m K c false p 0 (bR false) _ Z) $$ [HO B0 HT Ho]
  · isplitr; · iexact HP
    isplitl [HO]; · iexact HO
    isplitl [B0]; · iexact B0
    isplitl [HT]; · iexact HT
    iexact Ho
  iintro ⟨HO, B0, HT, Ho⟩
  iapply (wp_put m K c true p 0 (bR true) _ _) $$ [HO B1 HT Ho]
  · isplitr; · iexact HP
    isplitl [HO]; · iexact HO
    isplitl [B1]; · iexact B1
    isplitl [HT]; · iexact HT
    iexact Ho
  iintro ⟨HO, B1, HT, Ho⟩
  iapply (tn_sent1 m K c false p) $$ [HO H0 B0]
  · isplitr; · iexact HP
    isplitl [HO]; · iexact HO
    isplitl [H0]; · iexact H0
    iexact B0
  iintro ⟨HO, H0⟩
  iapply (tn_sent1 m K c true p) $$ [HO H1 B1]
  · isplitr; · iexact HP
    isplitl [HO]; · iexact HO
    isplitl [H1]; · iexact H1
    iexact B1
  iintro ⟨HO, H1⟩
  iapply (tn_recv1 m K c false p) $$ [HO H0]
  · isplitr; · iexact HP
    isplitl [HO]; · iexact HO
    iexact H0
  iintro ⟨HO, H0⟩
  iapply (tn_recv1 m K c true p) $$ [HO H1]
  · isplitr; · iexact HP
    isplitl [HO]; · iexact HO
    iexact H1
  iintro ⟨HO, H1⟩
  iapply Hk
  isplitl [HO]; · iexact HO
  isplitl [HT]; · iexact HT
  isplitl [Ho]; · iexact Ho
  isplitl [H0]; · iexact H0
  iexact H1

/-- The third round of the gather. -/
theorem ps_gather2 (p : Fin 2) (Z : S4096x8192.Idx → Prop) {P : Pg F} {Q : PUnit → sProp 𝕄} :
    iprop(pers m K ∗ ow c (bp p + 34) ∗ rT c ∗ out m c Z ∗ t7 m c false p ∗ t7 m c true p)
      ⊢ iprop((iprop(ow c (bp p + 36) ∗ rT c ∗ out m c (fun i => (Z i ∨ inBlk false p c 1 i) ∨ inBlk true p c 1 i)
            ∗ (t10 c false p ∗ fp c (bR false) fullShare (gath m false p c 2))
            ∗ (t10 c true p ∗ fp c (bR true) fullShare (gath m true p c 2))) -∗ run c P Q) -∗ run c (gather2 p c P) Q) := by
  unfold gather2
  iintro ⟨#HP, HO, HT, Ho, H0, H1⟩ Hk
  iapply (tn_send2 m K c false p) $$ [HO H0]
  · isplitr; · iexact HP
    isplitl [HO]; · iexact HO
    iexact H0
  iintro ⟨HO, H0, B0⟩
  iapply (tn_send2 m K c true p) $$ [HO H1]
  · isplitr; · iexact HP
    isplitl [HO]; · iexact HO
    iexact H1
  iintro ⟨HO, H1, B1⟩
  iapply (wp_put m K c false p 1 (bW false) _ Z) $$ [HO B0 HT Ho]
  · isplitr; · iexact HP
    isplitl [HO]; · iexact HO
    isplitl [B0]; · iexact B0
    isplitl [HT]; · iexact HT
    iexact Ho
  iintro ⟨HO, B0, HT, Ho⟩
  iapply (wp_put m K c true p 1 (bW true) _ _) $$ [HO B1 HT Ho]
  · isplitr; · iexact HP
    isplitl [HO]; · iexact HO
    isplitl [B1]; · iexact B1
    isplitl [HT]; · iexact HT
    iexact Ho
  iintro ⟨HO, B1, HT, Ho⟩
  iapply (tn_sent2 m K c false p) $$ [HO H0 B0]
  · isplitr; · iexact HP
    isplitl [HO]; · iexact HO
    isplitl [H0]; · iexact H0
    iexact B0
  iintro ⟨HO, H0⟩
  iapply (tn_recv2 m K c false p) $$ [HO H0]
  · isplitr; · iexact HP
    isplitl [HO]; · iexact HO
    iexact H0
  iintro ⟨HO, H0⟩
  iapply (tn_sent2 m K c true p) $$ [HO H1 B1]
  · isplitr; · iexact HP
    isplitl [HO]; · iexact HO
    isplitl [H1]; · iexact H1
    iexact B1
  iintro ⟨HO, H1⟩
  iapply (tn_recv2 m K c true p) $$ [HO H1]
  · isplitr; · iexact HP
    isplitl [HO]; · iexact HO
    iexact H1
  iintro ⟨HO, H1⟩
  iapply Hk
  isplitl [HO]; · iexact HO
  isplitl [HT]; · iexact HT
  isplitl [Ho]; · iexact Ho
  isplitl [H0]; · iexact H0
  iexact H1

/-- What a pass adds to the result before its last stores. -/
def inPass (p : Fin 2) (i : S4096x8192.Idx) : Prop := ∃ D : Bool, ∃ k : Fin 4, k ≠ 2 ∧ inBlk D p c k i

/-- One pass, up to its last stores. -/
theorem ps_pass (p : Fin 2) (Z : S4096x8192.Idx → Prop) {P : Pg F} {Q : PUnit → sProp 𝕄} :
    iprop(pers m K ∗ ow c (bp p) ∗ ops m c ∗ rT c ∗ out m c Z ∗ passIn c false p ∗ passIn c true p)
      ⊢ iprop((iprop(ow c (bp p + 36) ∗ ops m c ∗ rT c ∗ out m c (fun i => Z i ∨ inPass c p i)
            ∗ (t10 c false p ∗ fp c (bR false) fullShare (gath m false p c 2))
            ∗ (t10 c true p ∗ fp c (bR true) fullShare (gath m true p c 2))) -∗ run c P Q) -∗ run c (pass p c P) Q) := by
  unfold pass
  iintro ⟨#HP, HO, Hops, HT, Ho, H0, H1⟩ Hk
  iapply (ps_reduce m K c p) $$ [HO Hops H0 H1]
  · isplitr; · iexact HP
    isplitl [HO]; · iexact HO
    isplitl [Hops]; · iexact Hops
    isplitl [H0]; · iexact H0
    iexact H1
  iintro ⟨HO, Hops, H0, H1⟩
  iapply (ps_gather0 m K c p Z) $$ [HO HT Ho H0 H1]
  · isplitr; · iexact HP
    isplitl [HO]; · iexact HO
    isplitl [HT]; · iexact HT
    isplitl [Ho]; · iexact Ho
    isplitl [H0]; · iexact H0
    iexact H1
  iintro ⟨HO, HT, Ho, H0, H1⟩
  iapply (ps_gather1 m K c p _) $$ [HO HT Ho H0 H1]
  · isplitr; · iexact HP
    isplitl [HO]; · iexact HO
    isplitl [HT]; · iexact HT
    isplitl [Ho]; · iexact Ho
    isplitl [H0]; · iexact H0
    iexact H1
  iintro ⟨HO, HT, Ho, H0, H1⟩
  iapply (ps_gather2 m K c p _) $$ [HO HT Ho H0 H1]
  · isplitr; · iexact HP
    isplitl [HO]; · iexact HO
    isplitl [HT]; · iexact HT
    isplitl [Ho]; · iexact Ho
    isplitl [H0]; · iexact H0
    iexact H1
  iintro ⟨HO, HT, Ho, H0, H1⟩
  iapply Hk
  isplitl [HO]; · iexact HO
  isplitl [Hops]; · iexact Hops
  isplitl [HT]; · iexact HT
  isplitl [Ho]
  · iapply (out_mono m c (Z := fun i => (((((Z i ∨ inBlk false p c 3 i) ∨ inBlk true p c 3 i) ∨ inBlk false p c 0 i) ∨ inBlk true p c 0 i)
        ∨ inBlk false p c 1 i) ∨ inBlk true p c 1 i) (fun i hi => by
      have h4 : ∀ k : Fin 4, k ≠ 2 → k = 0 ∨ k = 1 ∨ k = 3 := by decide
      rcases hi with hi | ⟨D, k, hk, hi⟩
      · exact .inl (.inl (.inl (.inl (.inl (.inl hi)))))
      · rcases h4 k hk with rfl | rfl | rfl
        · cases D
          · exact .inl (.inl (.inl (.inr hi)))
          · exact .inl (.inl (.inr hi))
        · cases D
          · exact .inl (.inr hi)
          · exact .inr hi
        · cases D
          · exact .inl (.inl (.inl (.inl (.inl (.inr hi)))))
          · exact .inl (.inl (.inl (.inl (.inr hi))))))
    iexact Ho
  isplitl [H0]; · iexact H0
  iexact H1

end Pass

end Cert.Proof.Ring
-- ==== Proof.Body.lean ====
module

public import proofs.«01_k».proof.Proof.Pass

/-! # A device's program

From the handshake with both neighbours to the last store: every cell the device is in comes to its last round, nothing is
owed and every block of the result is stored. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Body
variable (m : (ℓ : Loc nD τ sig) → Buf (Elt F) ℓ) (K : Dev nD × Fin 15 → ℕ) (c : Dev nD)

/-- One direction before pass `p`, the receive buffer not yet lent. -/
def turnIn (D : Bool) (p : Fin 2) : sProp 𝕄 :=
  iprop(core c D (rC p 0) (rR false p 0) (rR false p 0) (rR true p 0) (rR true p 0) (rC p 0) p.val p.val (rS true p 0)
    ∗ ss c D false (rS false p 0) ∗ rch (src D c) D .credW p.val ∗ fx c (bS D) ∗ fx c (bW D) ∗ srcR c D (rC p 0))

/-- After the first pass a direction is ready for the second. -/
theorem t10_turn (D : Bool) : (t10 (F := F) c D 0) ⊢ turnIn c D 1 := by
  unfold t10 turnIn
  iintro ⟨⟨HC, HS, Hr⟩, Sa, HW, HR⟩
  isplitl [HC]; · iexact HC
  isplitl [Sa]; · iexact Sa
  isplitl [Hr]; · iexact Hr
  isplitl [HS]; · iexact HS
  isplitl [HW]; · iexact HW
  iexact HR

/-- The receive buffer lent to the source for a pass. -/
theorem ps_turn (D : Bool) (p : Fin 2) {n : ℕ} (he : evs[n]? = some (.pay D (.cred false) (rC p 0)))
    (he' : evs[n + 1]? = some (.pay D (.cred true) (rC p 0))) {P : Pg F} {Q : PUnit → sProp 𝕄} :
    iprop(pers m K ∗ ow c n ∗ turnIn c D p ∗ fx c (bR D))
      ⊢ iprop((iprop(ow c (n + 2) ∗ passIn c D p) -∗ run c P Q) -∗ run c (giveR D c P) Q) := by
  unfold turnIn core srcR
  iintro ⟨#HP, HO, ⟨⟨HC, ⟨Ra, Pa⟩, ⟨Rb, Pb⟩, ⟨Ga, Gb⟩, HCW, Sb⟩, Sa, Hr, HS, HW, ⟨Hra, Hrb⟩⟩, HR⟩ Hk
  ihave Ra := (ws_rch c D _ _) $$ Ra
  icases Ra with ⟨Ra, #Hxa⟩
  ihave Rb := (ws_rch c D _ _) $$ Rb
  icases Rb with ⟨Rb, #Hxb⟩
  iapply (wp_giveR m K c D (by show rC p 0 < 10; fin_cases p <;> decide) he he' (rch c D (.recv true) (rR true p 0)) (by
      rw [pay_credH m D (src D c) p true (by decide : 0 < 3), tgt_src])) $$ [HO Ga Gb Hra Hrb HR]
  · isplitr; · iexact HP
    isplitl [HO]; · iexact HO
    isplitl [Ga]; · iexact Ga
    isplitl [Gb]; · iexact Gb
    isplitl [Hra]; · iexact Hra
    isplitl [Hrb]; · iexact Hrb
    isplitl [HR]; · iexact HR
    isplitr; · iexact Hxa
    iexact Hxb
  iintro ⟨HO, Ga, Gb⟩
  iapply Hk
  isplitl [HO]; · iexact HO
  unfold passIn core
  isplitl [HC Ra Pa Rb Pb Ga Gb HCW Sb]
  · isplitl [HC]; · iexact HC
    isplitl [Ra Pa]
    · isplitl [Ra]; · iexact Ra
      iexact Pa
    isplitl [Rb Pb]
    · isplitl [Rb]; · iexact Rb
      iexact Pb
    isplitl [Ga Gb]
    · isplitl [Ga]; · iexact Ga
      iexact Gb
    isplitl [HCW]; · iexact HCW
    iexact Sb
  isplitl [Sa]; · iexact Sa
  isplitl [Hr]; · iexact Hr
  isplitl [HS]; · iexact HS
  iexact HW

/-- A neighbour told that the device has started. -/
theorem wp_hail (b : Bool) {n : ℕ} (he : evs[n]? = some (.bar b)) {P : Pg F} {Q : PUnit → sProp 𝕄} :
    iprop(pers m K ∗ ow c n ∗ dutyTok (EB (F := F)) (clB (if b then rgt c else lft c)) 0 b)
      ⊢ iprop((ow c (n + 1) -∗ run c P Q) -∗ run c (giveC (if b then rgt c else lft c) sBar P) Q) := by
  unfold ow giveC
  iintro ⟨#HP, ⟨%W, HO⟩, Ht⟩ Hk
  rw [oweFrom_succ c n _ he]
  rw [show ((1#32 : BitVec 32).toInt) = ((1 : ℕ) : ℤ) from by decide]
  iapply (Rounds.wp_signal 𝒱₀ (EB (F := F)) (rd m) (c.tc : Thread nD τ) none (dst := ((if b then rgt c else lft c).tc : Thread nD τ)) (sem := sBar)
      (r := 0) (d := b) (k' := 1) (κ := K (if b then rgt c else lft c, 14))
      (by rw [duties_bar]; exact Finset.mem_univ _) (amount_bar m _ 0 b) 0 (oweFrom c (n + 1)) rfl) $$ [HO Ht]
  · rw [payload_bar]
    isplitr; · iapply (pers_bar m K _); iexact HP
    isplitl [HO]; · iexact HO
    isplitl [Ht]; · iexact Ht
    isplitr; · iempintro
    iapply (pers_reached m K (if b then rgt c else lft c, 14)); iexact HP
  iintro HO
  iapply Hk
  iexists _; iexact HO

/-- The wait for both neighbours. -/
theorem wp_met {P : Pg F} {Q : PUnit → sProp 𝕄} :
    iprop(pers m K ∗ ow c 2 ∗ atPos (EB (F := F)) (clB c) 0 ∅ 0 ∗ cred (tallyAt (clB c) 0 2))
      ⊢ iprop((iprop(ow c 2 ∗ atPos (EB (F := F)) (clB c) 1 ∅ 0) -∗ run c P Q) -∗ run c (waitC sBar 2#32 P) Q) := by
  unfold ow waitC
  iintro ⟨#HP, ⟨%W, HO⟩, Hat, Hc⟩ Hk
  rw [show ((2#32 : BitVec 32).toInt) = ((2 : ℕ) : ℤ) from by decide]
  iapply (Rounds.wp_wait_rest_token 𝒱₀ (EB (F := F)) (rd m) (c.tc : Thread nD τ) none (κ := K (c, 14)) (sm := .reg sBar) (k' := 2)
      (fun _ => rfl) (Set.mem_univ _) 0 (O := oweFrom c 2) (W := W) (R := 0) (m := 0) (T := ∅)
      (by rw [expect_bar])) $$ [Hc HO Hat]
  · isplitr; · iapply (pers_bar m K c); iexact HP
    isplitl [Hc]; · iexact Hc
    isplitl [HO]; · iexact HO
    isplitr; · iapply (mayWait c (.reg sBar) 0 2 (by decide) (by decide +kernel)); iapply (pers_lev m K); iexact HP
    iexact Hat
  iintro ⟨HO, Hat, -, -⟩
  iapply Hk
  isplitl [HO]; · iexists _; iexact HO
  iexact Hat

/-- The barrier's share of a device: its neighbours' duties, its own cell and the credit to wait on it. -/
def barIn : sProp 𝕄 :=
  iprop(dutyTok (EB (F := F)) (clB (lft c)) 0 false ∗ dutyTok (EB (F := F)) (clB (rgt c)) 0 true
    ∗ atPos (EB (F := F)) (clB c) 0 ∅ 0 ∗ cred (tallyAt (clB c) 0 2))

/-- The handshake, and both receive buffers lent. -/
theorem ps_start {P : Pg F} {Q : PUnit → sProp 𝕄} :
    iprop(pers m K ∗ ow c 0 ∗ barIn c ∗ (turnIn c false 0 ∗ fx c (bR false)) ∗ (turnIn c true 0 ∗ fx c (bR true)))
      ⊢ iprop((iprop(ow c 6 ∗ atPos (EB (F := F)) (clB c) 1 ∅ 0 ∗ passIn c false 0 ∗ passIn c true 0) -∗ run c P Q) -∗ run c (start c P) Q) := by
  unfold start barIn
  iintro ⟨#HP, HO, ⟨T0, T1, Hat, Hc⟩, H0, H1⟩ Hk
  iapply (wp_hail m K c false (n := 0) rfl) $$ [HO T0]
  · isplitr; · iexact HP
    isplitl [HO]; · iexact HO
    iexact T0
  iintro HO
  iapply (wp_hail m K c true (n := 1) rfl) $$ [HO T1]
  · isplitr; · iexact HP
    isplitl [HO]; · iexact HO
    iexact T1
  iintro HO
  iapply (wp_met m K c) $$ [HO Hat Hc]
  · isplitr; · iexact HP
    isplitl [HO]; · iexact HO
    isplitl [Hat]; · iexact Hat
    iexact Hc
  iintro ⟨HO, Hat⟩
  iapply (ps_turn m K c false 0 (n := 2) rfl rfl) $$ [HO H0]
  · isplitr; · iexact HP
    isplitl [HO]; · iexact HO
    iexact H0
  iintro ⟨HO, H0⟩
  iapply (ps_turn m K c true 0 (n := 4) rfl rfl) $$ [HO H1]
  · isplitr; · iexact HP
    isplitl [HO]; · iexact HO
    iexact H1
  iintro ⟨HO, H1⟩
  iapply Hk
  isplitl [HO]; · iexact HO
  isplitl [Hat]; · iexact Hat
  isplitl [H0]; · iexact H0
  iexact H1

/-- Every index of the result is in a block of some pass, direction and step. -/
theorem all_blocks (i : S4096x8192.Idx) : ∃ (D : Bool) (p : Fin 2) (k : Fin 4), inBlk D p c k i := by
  obtain ⟨k, hk⟩ : ∃ k : Fin 4, rowOf i = ck (dirOf i) c k := by
    generalize rowOf i = r; generalize dirOf i = D; revert r D c; decide
  exact ⟨dirOf i, passOf i, k, rfl, rfl, hk⟩

/-- What a device's program starts with. -/
def bodyIn : sProp 𝕄 :=
  iprop(ow c 0 ∗ barIn c ∗ (turnIn c false 0 ∗ fx c (bR false)) ∗ (turnIn c true 0 ∗ fx c (bR true)) ∗ ops m c ∗ rT c
    ∗ out m c (fun _ => False))
/-- What it ends with: the result is what it should be. -/
def bodyOut : sProp 𝕄 :=
  iprop(ow c 82 ∗ atPos (EB (F := F)) (clB c) 1 ∅ 0 ∗ (t10 c false 1 ∗ fx c (bR false)) ∗ (t10 c true 1 ∗ fx c (bR true)) ∗ ops m c ∗ rT c
    ∗ (aO.view.loc (c.tc : Thread nD τ) ↦[Finset.univ]{fullShare} res m))

/-- The last block of a pass, from the receive buffer. -/
theorem ps_last (D : Bool) (p : Fin 2) (Z : S4096x8192.Idx → Prop) {n : ℕ} {P : Pg F} {Q : PUnit → sProp 𝕄} :
    iprop(pers m K ∗ ow c n ∗ fp c (bR D) fullShare (gath m D p c 2) ∗ rT c ∗ out m c Z)
      ⊢ iprop((iprop(ow c n ∗ fx c (bR D) ∗ rT c ∗ out m c (fun i => Z i ∨ inBlk D p c 2 i)) -∗ run c P Q)
          -∗ run c (put D p c 2 (bR D) P) Q) := by
  iintro ⟨#HP, HO, HB, HT, Ho⟩ Hk
  iapply (wp_put m K c D p 2 (bR D) fullShare Z) $$ [HO HB HT Ho]
  · isplitr; · iexact HP
    isplitl [HO]; · iexact HO
    isplitl [HB]; · iexact HB
    isplitl [HT]; · iexact HT
    iexact Ho
  iintro ⟨HO, HB, HT, Ho⟩
  iapply Hk
  isplitl [HO]; · iexact HO
  isplitl [HB]; · iapply (fp_fx c (bR D) _); iexact HB
  isplitl [HT]; · iexact HT
  iexact Ho

/-- A device's program, from what it starts with to what it ends with. -/
theorem sound_body : iprop(pers m K ∗ bodyIn m c) ⊢ run c (body (F := F) c) (fun _ => bodyOut m c) := by
  unfold bodyIn body
  iintro ⟨#HP, HO, HB, H0, H1, Hops, HT, Ho⟩
  iapply (ps_start m K c) $$ [HO HB H0 H1]
  · isplitr; · iexact HP
    isplitl [HO]; · iexact HO
    isplitl [HB]; · iexact HB
    isplitl [H0]; · iexact H0
    iexact H1
  iintro ⟨HO, Hat, H0, H1⟩
  iapply (ps_pass m K c 0 _) $$ [HO Hops HT Ho H0 H1]
  · isplitr; · iexact HP
    isplitl [HO]; · iexact HO
    isplitl [Hops]; · iexact Hops
    isplitl [HT]; · iexact HT
    isplitl [Ho]; · iexact Ho
    isplitl [H0]; · iexact H0
    iexact H1
  iintro ⟨HO, Hops, HT, Ho, ⟨H0, B0⟩, H1, B1⟩
  iapply (ps_last m K c false 0 _) $$ [HO B0 HT Ho]
  · isplitr; · iexact HP
    isplitl [HO]; · iexact HO
    isplitl [B0]; · iexact B0
    isplitl [HT]; · iexact HT
    iexact Ho
  iintro ⟨HO, B0, HT, Ho⟩
  ihave H0 := (t10_turn c false) $$ H0
  iapply (ps_turn m K c false 1 (n := 42) rfl rfl) $$ [HO H0 B0]
  · isplitr; · iexact HP
    isplitl [HO]; · iexact HO
    isplitl [H0]; · iexact H0
    iexact B0
  iintro ⟨HO, H0⟩
  iapply (ps_last m K c true 0 _) $$ [HO B1 HT Ho]
  · isplitr; · iexact HP
    isplitl [HO]; · iexact HO
    isplitl [B1]; · iexact B1
    isplitl [HT]; · iexact HT
    iexact Ho
  iintro ⟨HO, B1, HT, Ho⟩
  ihave H1 := (t10_turn c true) $$ H1
  iapply (ps_turn m K c true 1 (n := 44) rfl rfl) $$ [HO H1 B1]
  · isplitr; · iexact HP
    isplitl [HO]; · iexact HO
    isplitl [H1]; · iexact H1
    iexact B1
  iintro ⟨HO, H1⟩
  iapply (ps_pass m K c 1 _) $$ [HO Hops HT Ho H0 H1]
  · isplitr; · iexact HP
    isplitl [HO]; · iexact HO
    isplitl [Hops]; · iexact Hops
    isplitl [HT]; · iexact HT
    isplitl [Ho]; · iexact Ho
    isplitl [H0]; · iexact H0
    iexact H1
  iintro ⟨HO, Hops, HT, Ho, ⟨H0, B0⟩, H1, B1⟩
  iapply (ps_last m K c false 1 _) $$ [HO B0 HT Ho]
  · isplitr; · iexact HP
    isplitl [HO]; · iexact HO
    isplitl [B0]; · iexact B0
    isplitl [HT]; · iexact HT
    iexact Ho
  iintro ⟨HO, B0, HT, Ho⟩
  iapply (ps_last m K c true 1 _) $$ [HO B1 HT Ho]
  · isplitr; · iexact HP
    isplitl [HO]; · iexact HO
    isplitl [B1]; · iexact B1
    isplitl [HT]; · iexact HT
    iexact Ho
  iintro ⟨HO, B1, HT, Ho⟩
  unfold out
  icases Ho with ⟨%f, %hf, Ho⟩
  have hfr : f = res m := by
    funext i
    refine hf i ?_
    obtain ⟨D, p, k, h⟩ := all_blocks c i
    by_cases hk : k = 2
    · subst hk
      fin_cases p <;> cases D
      · exact .inl (.inl (.inl (.inl (.inr h))))
      · exact .inl (.inl (.inl (.inr h)))
      · exact .inl (.inr h)
      · exact .inr h
    · fin_cases p
      · exact .inl (.inl (.inl (.inl (.inl (.inr ⟨D, k, hk, h⟩)))))
      · exact .inl (.inl (.inr ⟨D, k, hk, h⟩))
  rw [hfr]
  unfold run
  rw [wp_ret]
  imodintro
  unfold bodyOut
  isplitl [HO]; · iexact HO
  isplitl [Hat]; · iexact Hat
  isplitl [H0 B0]
  · isplitl [H0]; · iexact H0
    iexact B0
  isplitl [H1 B1]
  · isplitl [H1]; · iexact H1
    iexact B1
  isplitl [Hops]; · iexact Hops
  isplitl [HT]; · iexact HT
  iexact Ho

end Body

end Cert.Proof.Ring
-- ==== Proof.Credits.lean ====
module

public import proofs.«01_k».proof.Proof.Body

/-! # The credits

What every device owes, summed over the ring, is what every device waits for: a device starts with the credit of all its
waits. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A payment as units received. -/
def ownTally (c : Dev nD) : Ev → CellTallies nD τ sig Nat
  | .bar _ => tallyAt (clB c) 0 1
  | .pay D k r => tallyAt (cl c D k) r (amt k r)

/-- Paying goes to all the devices. -/
theorem payee_bij : ∀ (D : Bool) (k : Kn), Function.Bijective (payee D k)
  | D, .send _ => Function.bijective_id
  | D, .recv _ => ⟨fun a b h => by rw [← src_tgt D a, ← src_tgt D b]; exact congrArg (src D) h, fun a => ⟨src D a, tgt_src D a⟩⟩
  | D, .cred _ => ⟨fun a b h => by rw [← tgt_src D a, ← tgt_src D b]; exact congrArg (tgt D) h, fun a => ⟨tgt D a, src_tgt D a⟩⟩
  | D, .credW => ⟨fun a b h => by rw [← tgt_src D a, ← tgt_src D b]; exact congrArg (tgt D) h, fun a => ⟨tgt D a, src_tgt D a⟩⟩
/-- Each device is the right, and the left, neighbour of one device. -/
theorem bar_bij : ∀ b : Bool, Function.Bijective (fun c : Dev nD => if b then rgt c else lft c) := by decide

/-- One payment of all devices is received by all devices. -/
theorem pay_around (e : Ev) : (∑ d : Dev nD, evTally d e) = ∑ d : Dev nD, ownTally d e := by
  cases e with
  | bar b => exact Fintype.sum_equiv (Equiv.ofBijective _ (bar_bij b)) _ _ fun _ => rfl
  | pay D k r => exact Fintype.sum_equiv (Equiv.ofBijective _ (payee_bij D k)) _ _ fun _ => rfl

/-- The cells others pay. -/
def paid : List (Bool × Kn) :=
  [(false, .cred false), (false, .cred true), (false, .recv false), (false, .recv true), (false, .credW),
   (true, .cred false), (true, .cred true), (true, .recv false), (true, .recv true), (true, .credW)]
/-- The payments of all rounds of a cell. -/
def roundsOf (y : Bool × Kn) : List Ev := (List.range (rounds y.2)).map fun r => .pay y.1 y.2 r
/-- The payments, by the cell. -/
def evs' : List Ev := .bar false :: .bar true :: paid.flatMap roundsOf

/-- A device's payments, sorted by what they are for. -/
theorem evs_perm : evs.Perm evs' := by decide +kernel

/-- What a device waits for. -/
def dueTo (c : Dev nD) : CellTallies nD τ sig Nat := (evs'.map (ownTally c)).sum

/-- Sums over lists agree where the sums of their terms do. -/
theorem sum_lists (l : List Ev) (f g : Dev nD → Ev → CellTallies nD τ sig Nat) (h : ∀ e, (∑ d, f d e) = ∑ d, g d e) :
    (∑ d, (l.map (f d)).sum) = ∑ d, (l.map (g d)).sum := by
  induction l with
  | nil => rfl
  | cons e l ih => simp only [List.map_cons, List.sum_cons, Finset.sum_add_distrib]; rw [ih, h]

/-- What all devices owe is what is due to all devices. -/
theorem owed_eq : (∑ d : Dev nD, oweFrom d 0) = ∑ d : Dev nD, dueTo d := by
  unfold dueTo
  rw [← sum_lists evs' evTally ownTally pay_around]
  exact Finset.sum_congr rfl fun d _ => ((evs_perm.map (evTally d)).sum_eq)

/-- What is due to a device is due on a cell of its own, -/
theorem ownTally_own (c : Dev nD) (e : Ev) (g : GSem nD τ sig) (h : ownTally c e g ≠ 0) : g.1 = (c.tc : Thread nD τ) := by
  by_contra hn
  refine h ?_
  cases e with
  | bar b => show tallyAt (clB c) 0 1 g = 0; refine tallyAt_ne_cell ?_ _ _; intro h; exact hn (by rw [h])
  | pay D k r => show tallyAt (cl c D k) r (amt k r) g = 0; refine tallyAt_ne_cell ?_ _ _; intro h; exact hn (by rw [h])

/-- and so is all that is due to it. -/
theorem dueTo_own (c : Dev nD) (g : GSem nD τ sig) (h : dueTo c g ≠ 0) : g.1 = (c.tc : Thread nD τ) := by
  unfold dueTo at h
  revert h
  generalize evs' = l
  induction l with
  | nil => intro h; exact absurd rfl h
  | cons e l ih =>
    intro h
    rw [List.map_cons, List.sum_cons, Pi.add_apply] at h
    by_cases he : ownTally c e g = 0
    · rw [he, zero_add] at h; exact ih h
    · exact ownTally_own c e g he

omit [FloatOps F] in
/-- The credit of all of a cell's rounds, round by round. -/
theorem cred_rounds (c : Dev nD) (D : Bool) (k : Kn) (N : ℕ) :
    (cred (((List.range N).map fun r => ownTally c (.pay D k r)).sum) : sProp 𝕄)
      ⊢ bigSep (Finset.Ico 0 N) fun r => cred (tallyAt (cl c D k) r (amt k r)) := by
  induction N with
  | zero => rw [Finset.Ico_self, BI.bigSep_empty]; iintro -; iempintro
  | succ N ih =>
    rw [List.range_succ, List.map_append, List.sum_append]
    rw [show (Finset.Ico 0 (N + 1)) = insert N (Finset.Ico 0 N) from by ext i; simp only [Finset.mem_Ico, Finset.mem_insert]; omega,
      show (bigSep (insert N (Finset.Ico 0 N)) fun r => (cred (tallyAt (cl c D k) r (amt k r)) : sProp 𝕄))
        = iprop(cred (tallyAt (cl c D k) N (amt k N)) ∗ bigSep (Finset.Ico 0 N) fun r => cred (tallyAt (cl c D k) r (amt k r)))
        from BI.bigSep_insert (by simp)]
    iintro H
    ihave H := (cred_add _ _).1 $$ H
    icases H with ⟨H1, H2⟩
    isplitl [H2]
    · iapply (Entails.of_eq (congrArg cred (show ([N].map fun r => ownTally c (.pay D k r)).sum = tallyAt (cl c D k) N (amt k N) from by
        rw [List.map_singleton, List.sum_singleton]; rfl)))
      iexact H2
    iapply ih
    iexact H1

/-- The credits of the cells of a list. -/
def crsL (c : Dev nD) : List (Bool × Kn) → sProp 𝕄
  | [] => iprop(emp)
  | y :: l => iprop(crs c y.1 y.2 0 ∗ crsL c l)

omit [FloatOps F] in
/-- The credit of several cells, cell by cell. -/
theorem cred_list (c : Dev nD) (l : List (Bool × Kn)) :
    (cred (((l.flatMap roundsOf).map (ownTally c)).sum) : sProp 𝕄) ⊢ crsL c l := by
  induction l with
  | nil => unfold crsL; iintro -; iempintro
  | cons y l ih =>
    rw [List.flatMap_cons, List.map_append, List.sum_append]
    unfold crsL
    iintro H
    ihave H := (cred_add _ _).1 $$ H
    icases H with ⟨H1, H2⟩
    isplitl [H1]
    · unfold crs
      iapply (cred_rounds c y.1 y.2 (rounds y.2))
      unfold roundsOf
      rw [List.map_map]
      iexact H1
    iapply ih
    iexact H2

omit [FloatOps F] in
/-- The credit a device starts with is that of every wait. -/
theorem creds (c : Dev nD) : (Pipeline.launchCred (fun d => oweFrom d 0) c : sProp 𝕄)
    ⊢ iprop(cred (tallyAt (clB c) 0 2) ∗ crsL c paid) := by
  rw [Pipeline.launchCred_of_sum _ dueTo owed_eq dueTo_own c]
  unfold dueTo evs'
  rw [List.map_cons, List.map_cons, List.sum_cons, List.sum_cons, ← add_assoc,
    show ownTally c (.bar false) + ownTally c (.bar true) = tallyAt (clB c) 0 2 from tallyAt_add _ _ _ _]
  iintro H
  ihave H := (cred_add _ _).1 $$ H
  icases H with ⟨H1, H2⟩
  isplitl [H1]; · iexact H1
  iapply (cred_list c paid)
  iexact H2

end Cert.Proof.Ring
-- ==== Proof.Fund.lean ====
module

public import proofs.«01_k».proof.Proof.Credits

/-! # What the launch deals

Every cell's rounds are funded at once, and every device gets its own cells' positions and the duties it is to pay. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- Every purpose is in the list. -/
instance : Fintype Kn := ⟨kns.toFinset, fun k => by rcases k with s | s | s | _ <;> (try cases s) <;> decide⟩

omit [FloatOps F] in
/-- A family over pairs. -/
theorem big_product {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, BI.bigSep_empty, BI.bigSep_empty]
  | insert a s ha ih =>
    rw [Finset.insert_eq, Finset.union_product, BI.bigSep_union (Finset.disjoint_product.2 (.inl (Finset.disjoint_singleton_left.2 ha))),
      Finset.singleton_product, BI.bigSep_map, ← Finset.insert_eq, BI.bigSep_insert ha, ih]
    rfl

/-! ## The cells and the duties funded -/

/-- The fifteen semaphores of a device differ, -/
theorem ksem_inj : Function.Injective ksem := by decide +kernel
/-- and so do the cells of all devices, -/
theorem kcell_injective : Function.Injective kcell := by
  rintro ⟨c, k⟩ ⟨c', k'⟩ h
  have h1 : c = c' := congrArg (fun g : GSem nD τ sig => g.1.1) h
  subst h1
  have h2 : k = k' := ksem_inj (congrArg Prod.snd h)
  subst h2; rfl
/-- Every cell of the ring. -/
def cells : Finset (GSem nD τ sig) := Finset.univ.map ⟨kcell, kcell_injective⟩

/-- A duty of a cell. -/
def tokAt (x : (Dev nD × Fin 15) × (ℕ × Bool)) : GSem nD τ sig × ℕ × Bool := (kcell x.1, x.2.1, x.2.2)
/-- and all of the payments' tokens. -/
theorem tokAt_injective : Function.Injective tokAt := by
  rintro ⟨x, r, b⟩ ⟨x', r', b'⟩ h
  have h1 : x = x' := kcell_injective (congrArg Prod.fst h)
  have h2 : r = r' := congrArg (fun y : GSem nD τ sig × ℕ × Bool => y.2.1) h
  have h3 : b = b' := congrArg (fun y : GSem nD τ sig × ℕ × Bool => y.2.2) h
  subst h1 h2 h3; rfl
/-- The rounds and the duties of a cell. -/
def cellToks : Finset (ℕ × Bool) := Finset.range 12 ×ˢ Finset.univ
/-- Every duty of every cell. -/
def toks : Finset (GSem nD τ sig × ℕ × Bool) := ((Finset.univ : Finset (Dev nD × Fin 15)) ×ˢ cellToks).map ⟨tokAt, tokAt_injective⟩

/-- What the machine starts with. -/
def u₀ : UU := (initOf (Pipeline.cells cfgs cellOf_inj) (Pipeline.launchToks cfgs cellOf_inj), (initOf cells toks, 1))

/-- The duties of a cell. -/
def tk (x : Dev nD × Fin 15) : sProp 𝕄 := bigSep cellToks fun rb => dutyTok (EB (F := F)) (kcell x) rb.1 rb.2

section Fund
variable (m : (ℓ : Loc nD τ sig) → Buf (Elt F) ℓ)

/-- What a device's cells start with. -/
def G (c : Dev nD) : sProp 𝕄 :=
  iprop((bigSep Finset.univ fun k : Fin 15 => roundState (EB (F := F)) (rd m) (kcell (c, k)) 0)
    ∗ (bigSep Finset.univ fun k : Fin 15 => reached (EB (F := F)) (kcell (c, k)) 0)
    ∗ (bigSep Finset.univ fun k : Fin 15 => atPos (EB (F := F)) (kcell (c, k)) 0 ∅ 0)
    ∗ bigSep Finset.univ fun k : Fin 15 => tk (F := F) (c, k))

/-- The ring's initial state gives every cell its invariant's means and every payment its token. -/
theorem fund_ring : BI.own (EB (F := F) (initOf cells toks)) ⊢ (|==> bigSep Finset.univ (G m) : sProp 𝕄) := by
  have hX (Φ : GSem nD τ sig → sProp 𝕄) : bigSep cells Φ = bigSep Finset.univ fun c : Dev nD => bigSep Finset.univ fun k : Fin 15 => Φ (kcell (c, k)) := by
    unfold cells; rw [BI.bigSep_map, BI.bigSep_univ_prod]; rfl
  have hT : bigSep toks (fun x => (dutyTok (EB (F := F)) x.1 x.2.1 x.2.2 : sProp 𝕄))
      = bigSep Finset.univ fun c : Dev nD => bigSep Finset.univ fun k : Fin 15 => tk (F := F) (c, k) := by
    unfold toks; rw [BI.bigSep_map, big_product, BI.bigSep_univ_prod]; rfl
  iintro HX
  imod (Rounds.fund (EB (F := F)) (rd m) cells toks) $$ HX with ⟨Hst, Hr, Hat, Htok⟩
  imodintro
  ihave Hst := (Entails.of_eq (hX fun g => roundState (EB (F := F)) (rd m) g 0)) $$ Hst
  ihave Hat := (Entails.of_eq (hX fun g => atPos (EB (F := F)) g 0 ∅ 0)) $$ Hat
  ihave Hr := (Entails.of_eq (hX fun g => reached (EB (F := F)) g 0)) $$ Hr
  ihave Htok := (Entails.of_eq hT) $$ Htok
  unfold G; simp only [bigSep_sep']
  isplitl [Hst]; · iexact Hst
  isplitl [Hr]; · iexact Hr
  isplitl [Hat]; · iexact Hat
  iexact Htok

/-! ## The semaphores -/

/-- The kernel's own semaphores. -/
def osem : Fin 17 → SemLoc sig :=
  ![semOf false (.send false), semOf false (.send true), semOf false (.recv false), semOf false (.recv true),
    semOf true (.send false), semOf true (.send true), semOf true (.recv false), semOf true (.recv true),
    .dma sX, .dma sY, .dma sO,
    semOf false (.cred false), semOf false (.cred true), semOf false .credW,
    semOf true (.cred false), semOf true (.cred true), semOf true .credW]

/-- The kernel's own semaphores, as the launch wants them listed. -/
theorem ownSemFacts : Pipeline.OwnSemFacts cfg0.spec osem := by decide +kernel

/-- The semaphores of copies within a device. -/
def inner (c : Dev nD) : sProp 𝕄 :=
  iprop(semVal ((c.tc : Thread nD τ), .dma sX) 0 ∗ semVal ((c.tc : Thread nD τ), .dma sY) 0 ∗ semVal ((c.tc : Thread nD τ), .dma sO) 0)

omit [FloatOps F] in
/-- The launch's one further semaphore is the barrier. -/
theorem unscopedSems0_eq (c : Dev nD) : (unscopedSems0 c : sProp 𝕄) = semVal (clB c) 0 := by
  unfold unscopedSems0; rw [bigSep_eq_bigSepL_of_eq [SemLoc.reg sBar] (by decide) (by decide)]; rfl

omit [FloatOps F] in
/-- The kernel's own semaphores at zero, one by one. -/
theorem ownSems0_eq (c : Dev nD) : (Pipeline.ownSems0 (Ix := ℕ) (Name := ℕ) (U := UU) (Lvl := ℕ) (Val := Elt F) (τ := τ) osem c : sProp 𝕄)
    = iprop(semVal (cl c false (.send false)) 0
      ∗ semVal (cl c false (.send true)) 0
      ∗ semVal (cl c false (.recv false)) 0
      ∗ semVal (cl c false (.recv true)) 0
      ∗ semVal (cl c true (.send false)) 0
      ∗ semVal (cl c true (.send true)) 0
      ∗ semVal (cl c true (.recv false)) 0
      ∗ semVal (cl c true (.recv true)) 0
      ∗ semVal ((c.tc : Thread nD τ), .dma sX) 0
      ∗ semVal ((c.tc : Thread nD τ), .dma sY) 0
      ∗ semVal ((c.tc : Thread nD τ), .dma sO) 0
      ∗ semVal (cl c false (.cred false)) 0
      ∗ semVal (cl c false (.cred true)) 0
      ∗ semVal (cl c false (.credW)) 0
      ∗ semVal (cl c true (.cred false)) 0
      ∗ semVal (cl c true (.cred true)) 0
      ∗ semVal (cl c true (.credW)) 0) := by
  rw [Pipeline.ownSems0_eq_of_list c osem [0, 1, 2, 3, 4, 5, 6, 7, 8, 9, 10, 11, 12, 13, 14, 15, 16] (by decide) (by decide)]; rfl

omit [FloatOps F] in
/-- Fifteen conjuncts, written out. -/
theorem big15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
/-- One conjunct for each of the ring's semaphores, written out. -/
theorem big14 (Φ : Bool × Kn → sProp 𝕄) : bigSep Finset.univ Φ
    = iprop(Φ (false, .send false) ∗ Φ (false, .send true) ∗ Φ (false, .recv false) ∗ Φ (false, .recv true) ∗ Φ (false, .cred false) ∗ Φ (false, .cred true) ∗ Φ (false, .credW) ∗ Φ (true, .send false) ∗ Φ (true, .send true) ∗ Φ (true, .recv false) ∗ Φ (true, .recv true) ∗ Φ (true, .cred false) ∗ Φ (true, .cred true) ∗ Φ (true, .credW)) :=
  bigSep_univ_eq_bigSepL [(false, Kn.send false), (false, Kn.send true), (false, Kn.recv false), (false, Kn.recv true), (false, Kn.cred false), (false, Kn.cred true), (false, Kn.credW), (true, Kn.send false), (true, Kn.send true), (true, Kn.recv false), (true, Kn.recv true), (true, Kn.cred false), (true, Kn.cred true), (true, Kn.credW)] (by decide) (by decide) Φ
omit [FloatOps F] in
/-- A family over the cells of a device: those of the directions, and the barrier. -/
theorem big_cells (Φ : Fin 15 → sProp 𝕄) :
    bigSep Finset.univ Φ ⊢ iprop((bigSep Finset.univ fun y : Bool × Kn => Φ (kix y.1 y.2)) ∗ Φ 14) := by
  rw [big15, big14]
  simp only [kix]
  iintro ⟨H0, H1, H2, H3, H4, H5, H6, H7, H8, H9, H10, H11, H12, H13, H14⟩
  isplitr [H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact H14

omit [FloatOps F] in
/-- A device's semaphores at zero: those of its fifteen cells, and the three for copies within the device. -/
theorem sems_open (c : Dev nD) :
    iprop(Pipeline.ownSems0 (Ix := ℕ) (Name := ℕ) (U := UU) (Lvl := ℕ) (Val := Elt F) (τ := τ) osem c ∗ unscopedSems0 c)
      ⊢ iprop((bigSep Finset.univ fun k : Fin 15 => semVal (kcell (c, k)) 0 : sProp 𝕄) ∗ inner c) := by
  rw [ownSems0_eq, unscopedSems0_eq, big15]
  unfold inner
  iintro ⟨⟨H0, H1, H2, H3, H7, H8, H9, H10, HX, HY, HO, H4, H5, H6, H11, H12, H13⟩, H14⟩
  isplitr [HX HY HO]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [HX]; · iexact HX
  isplitl [HY]; · iexact HY
  iexact HO

omit [FloatOps F] in
/-- A product falls to a smaller one. -/
theorem big_subset {I : Type} [DecidableEq I] {s t : Finset I} {Φ : I → sProp 𝕄} (h : t ⊆ s) : bigSep s Φ ⊢ bigSep t Φ := BI.bigSep_subset h

omit [FloatOps F] in
/-- A product is monotone in its factors. -/
theorem big_mono {I : Type} {s : Finset I} {Φ Ψ : I → sProp 𝕄} (h : ∀ i ∈ s, Φ i ⊢ Ψ i) : bigSep s Φ ⊢ bigSep s Ψ := BI.bigSep_mono h

/-! ## One device's part -/

/-- A device's cells get their invariants. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Fin 15 => iprop(∃ κ : ℕ, cellInv (EB (F := F)) (rd m) κ (kcell (c, k))))
          ∗ (bigSep Finset.univ fun k : Fin 15 => reached (EB (F := F)) (kcell (c, k)) 0)
          ∗ (bigSep Finset.univ fun k : Fin 15 => atPos (EB (F := F)) (kcell (c, k)) 0 ∅ 0)
          ∗ (bigSep Finset.univ fun k : Fin 15 => tk (F := F) (c, k)) ∗ inner c) := by
  unfold G
  iintro ⟨Hos, Hus, Hst, Hr, Hat, Htok⟩
  ihave Hv := (sems_open (F := F) c) $$ [Hos Hus]
  · isplitl [Hos] <;> iassumption
  icases Hv with ⟨Hv, Hin⟩
  imod (show iprop((bigSep Finset.univ fun k : Fin 15 => semVal (kcell (c, k)) 0) ∗ bigSep Finset.univ fun k : Fin 15 => roundState (EB (F := F)) (rd m) (kcell (c, k)) 0)
      ⊢ (|={Set.univ}=> bigSep Finset.univ fun k => iprop(∃ κ : ℕ, cellInv (EB (F := F)) (rd m) κ (kcell (c, k))) : sProp 𝕄) from by
        rw [← bigSep_sep']
        exact (bigSep_mono fun k _ => (Rounds.body_intro (EB (F := F)) (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact Hin

omit [FloatOps F] in
/-- A cell's tokens are one for every round of it, -/
theorem tk_dts (c : Dev nD) (D : Bool) (k : Kn) : tk (F := F) (c, kix D k) ⊢ dts c D k 0 := by
  unfold tk dts
  rw [kcell_cl]
  have hs : (Finset.Ico 0 (rounds k)).map ⟨fun r => (r, false), fun a b h => congrArg Prod.fst h⟩ ⊆ cellToks := by
    intro x hx
    obtain ⟨r, hr, rfl⟩ := Finset.mem_map.1 hx
    have := (Finset.mem_Ico.1 hr).2
    have := rounds_le k
    exact Finset.mem_product.2 ⟨Finset.mem_range.2 (by show r < 12; omega), Finset.mem_univ _⟩
  refine (big_subset hs).trans (Entails.of_eq ?_)
  rw [BI.bigSep_map]
  rfl

omit [FloatOps F] in
/-- and the barrier's are one for each neighbour. -/
theorem tk_bar (c : Dev nD) : tk (F := F) (c, 14) ⊢ iprop(dutyTok (EB (F := F)) (clB c) 0 false ∗ dutyTok (EB (F := F)) (clB c) 0 true) := by
  unfold tk
  rw [kcell_bar]
  refine (big_subset (t := {(0, false), (0, true)}) (by decide)).trans (Entails.of_eq ?_)
  rw [show ({(0, false), (0, true)} : Finset (ℕ × Bool)) = insert (0, false) {(0, true)} from rfl, BI.bigSep_insert (by decide), BI.bigSep_singleton]
  rfl

/-- A device's own positions, and the duties it is to pay. -/
def lin (c : Dev nD) : sProp 𝕄 :=
  iprop((bigSep Finset.univ fun y : Bool × Kn => atPos (EB (F := F)) (cl c y.1 y.2) 0 ∅ 0) ∗ atPos (EB (F := F)) (clB c) 0 ∅ 0
    ∗ (bigSep Finset.univ fun y : Bool × Kn => dts (F := F) (payee y.1 y.2 c) y.1 y.2 0)
    ∗ dutyTok (EB (F := F)) (clB (lft c)) 0 false ∗ dutyTok (EB (F := F)) (clB (rgt c)) 0 true)

omit [FloatOps F] in
/-- The duties dealt around the ring. -/
theorem toks_around : (bigSep Finset.univ fun c : Dev nD => bigSep Finset.univ fun k : Fin 15 => tk (F := F) (c, k))
    ⊢ iprop((bigSep Finset.univ fun c : Dev nD => bigSep Finset.univ fun y : Bool × Kn => dts (F := F) (payee y.1 y.2 c) y.1 y.2 0)
        ∗ (bigSep Finset.univ fun c : Dev nD => dutyTok (EB (F := F)) (clB (lft c)) 0 false)
        ∗ bigSep Finset.univ fun c : Dev nD => dutyTok (EB (F := F)) (clB (rgt c)) 0 true) := by
  have h1 : (bigSep Finset.univ fun c : Dev nD => bigSep Finset.univ fun y : Bool × Kn => dts (F := F) (payee y.1 y.2 c) y.1 y.2 0)
      = bigSep Finset.univ fun c : Dev nD => bigSep Finset.univ fun y : Bool × Kn => dts (F := F) c y.1 y.2 0 := by
    rw [BI.bigSep_univ_comm, BI.bigSep_univ_comm (fun (c : Dev nD) (y : Bool × Kn) => dts (F := F) c y.1 y.2 0)]
    exact BI.bigSep_congr fun y _ => (BI.bigSep_univ_equiv (Equiv.ofBijective _ (payee_bij y.1 y.2)) (fun c => dts (F := F) c y.1 y.2 0)).symm
  have h2 : (bigSep Finset.univ fun c : Dev nD => dutyTok (EB (F := F)) (clB (lft c)) 0 false)
      = bigSep Finset.univ fun c : Dev nD => dutyTok (EB (F := F)) (clB c) 0 false :=
    (BI.bigSep_univ_equiv (Equiv.ofBijective _ (bar_bij false)) (fun c => dutyTok (EB (F := F)) (clB c) 0 false)).symm
  have h3 : (bigSep Finset.univ fun c : Dev nD => dutyTok (EB (F := F)) (clB (rgt c)) 0 true)
      = bigSep Finset.univ fun c : Dev nD => dutyTok (EB (F := F)) (clB c) 0 true :=
    (BI.bigSep_univ_equiv (Equiv.ofBijective _ (bar_bij true)) (fun c => dutyTok (EB (F := F)) (clB c) 0 true)).symm
  rw [h1, h2, h3]
  refine (big_mono fun c _ => show (bigSep Finset.univ fun k : Fin 15 => tk (F := F) (c, k))
    ⊢ iprop((bigSep Finset.univ fun y : Bool × Kn => dts (F := F) c y.1 y.2 0)
      ∗ dutyTok (EB (F := F)) (clB c) 0 false ∗ dutyTok (EB (F := F)) (clB c) 0 true) from ?_).trans (Entails.of_eq ?_)
  · iintro H
    ihave H := (big_cells (F := F) fun k => tk (F := F) (c, k)) $$ H
    icases H with ⟨H, HB⟩
    isplitl [H]
    · iapply (big_mono fun (y : Bool × Kn) _ => tk_dts (F := F) c y.1 y.2)
      iexact H
    iapply (tk_bar (F := F) c)
    iexact HB
  · rw [bigSep_sep', bigSep_sep']

/-- What the launch makes of a device's cells. -/
def G' (c : Dev nD) : sProp 𝕄 :=
  iprop(∃ K : Dev nD × Fin 15 → ℕ, (bigSep (Finset.univ : Finset (Dev nD × Fin 15)) fun x => cellInv (EB (F := F)) (rd m) (K x) (kcell x))
    ∗ (bigSep (Finset.univ : Finset (Dev nD × Fin 15)) fun x => reached (EB (F := F)) (kcell x) 0) ∗ lin c ∗ inner c)

/-- The records of every cell. -/
def records (K : Dev nD × Fin 15 → ℕ) : sProp 𝕄 :=
  iprop((bigSep (Finset.univ : Finset (Dev nD × Fin 15)) fun x => cellInv (EB (F := F)) (rd m) (K x) (kcell x))
    ∗ (bigSep (Finset.univ : Finset (Dev nD × Fin 15)) fun x => reached (EB (F := F)) (kcell x) 0))
instance records_persistent (K : Dev nD × Fin 15 → ℕ) : BI.Persistent (records m K) := by unfold records; infer_instance

/-- The shared records, with a device's tokens and counters, are what the device starts with. -/
theorem G'_intro (K : Dev nD × Fin 15 → ℕ) (c : Dev nD) : iprop(records m K ∗ lin c ∗ inner c) ⊢ G' m c := by
  unfold records G'
  iintro ⟨⟨H1, H2⟩, H3, H4⟩
  iexists K
  isplitl [H1]; · iexact H1
  isplitl [H2]; · iexact H2
  isplitl [H3]; · iexact H3
  iexact H4

/-- The cells' invariants, gathered from all devices, are shared by all. -/
theorem regroup :
    (bigSep Finset.univ fun c : Dev nD => iprop((bigSep Finset.univ fun k : Fin 15 => iprop(∃ κ : ℕ, cellInv (EB (F := F)) (rd m) κ (kcell (c, k))))
          ∗ (bigSep Finset.univ fun k : Fin 15 => reached (EB (F := F)) (kcell (c, k)) 0)
          ∗ (bigSep Finset.univ fun k : Fin 15 => atPos (EB (F := F)) (kcell (c, k)) 0 ∅ 0)
          ∗ (bigSep Finset.univ fun k : Fin 15 => tk (F := F) (c, k)) ∗ inner c) : sProp 𝕄)
      ⊢ bigSep Finset.univ (G' m) := by
  rw [bigSep_sep', bigSep_sep', bigSep_sep', bigSep_sep',
    ← BI.bigSep_univ_prod (fun ck : Dev nD × Fin 15 => iprop(∃ κ : ℕ, cellInv (EB (F := F)) (rd m) κ (kcell ck))),
    ← BI.bigSep_univ_prod (fun ck : Dev nD × Fin 15 => (reached (EB (F := F)) (kcell ck) 0 : sProp 𝕄))]
  iintro ⟨HI, #HR, Hat, Htok, Hin⟩
  ihave HK := (BI.bigSep_exists_pi Finset.univ (fun (ck : Dev nD × Fin 15) (κ : ℕ) => (cellInv (EB (F := F)) (rd m) κ (kcell ck) : sProp 𝕄))) $$ HI
  icases HK with ⟨%K, #HI⟩
  ihave Htk := (toks_around (F := F)) $$ Htok
  icases Htk with ⟨T, T0, T1⟩
  ihave Hat := ((big_mono fun (c : Dev nD) _ => big_cells (F := F) fun k => atPos (EB (F := F)) (kcell (c, k)) 0 ∅ 0).trans
    (Entails.of_eq (bigSep_sep' Finset.univ (fun c : Dev nD => bigSep Finset.univ fun y : Bool × Kn => atPos (EB (F := F)) (kcell (c, kix y.1 y.2)) 0 ∅ 0)
      (fun c : Dev nD => atPos (EB (F := F)) (kcell (c, 14)) 0 ∅ 0)))) $$ Hat
  icases Hat with ⟨Hat, HatB⟩
  iapply (bigSep_with_persistent (R := records m K) (Φ := fun c => iprop(lin c ∗ inner c)) fun c _ => G'_intro m K c)
  isplitr
  · unfold records; isplitl; · iexact HI
    iexact HR
  rw [bigSep_sep']
  isplitr [Hin]
  · unfold lin
    simp only [bigSep_sep']
    isplitl [Hat]
    · iapply (Entails.of_eq (BI.bigSep_congr fun (c : Dev nD) _ => BI.bigSep_congr fun (y : Bool × Kn) _ =>
        congrArg (fun g => atPos (EB (F := F)) g 0 ∅ 0) (kcell_cl c y.1 y.2)))
      iexact Hat
    isplitl [HatB]; · iexact HatB
    isplitl [T]; · iexact T
    isplitl [T0]; · iexact T0
    iexact T1
  iexact Hin

/-- Every device's semaphores opened at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Fund

end Cert.Proof.Ring
-- ==== Proof.Start.lean ====
module

public import proofs.«01_k».proof.Proof.Fund
public import proofs.«01_k».proof.Proof.Body

/-! # Before and after a device's program

What the launch gives a device is what its program starts with; what it ends with closes every cell, each counter at zero. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A device's position in a cell of its own and its duties of that kind. -/
def un (c : Dev nD) (D : Bool) (k : Kn) : sProp 𝕄 := iprop(atPos (EB (F := F)) (cl c D k) 0 ∅ 0 ∗ ps c D k 0)

section Start
variable (m : (ℓ : Loc nD τ sig) → Buf (Elt F) ℓ) (K : Dev nD × Fin 15 → ℕ) (c : Dev nD)

/-- A cell at its first round. -/
theorem atR_zero (D : Bool) (k : Kn) : iprop(pers m K ∗ atPos (EB (F := F)) (cl c D k) 0 ∅ 0) ⊢ atR c D k 0 := by
  unfold atR
  iintro ⟨#HP, H⟩
  isplitl [H]; · iexact H
  iapply (pers_rch m K c D k); iexact HP

/-- A cell others pay, at its first round. -/
theorem ws_zero (D : Bool) (k : Kn) : iprop(pers m K ∗ un c D k ∗ crs c D k 0) ⊢ iprop(ws c D k 0 ∗ ps c D k 0) := by
  unfold un ws
  iintro ⟨#HP, ⟨H, Hp⟩, Hc⟩
  isplitr [Hp]
  · isplitl [H]
    · iapply (atR_zero m K c D k)
      isplitr; · iexact HP
      iexact H
    iexact Hc
  iexact Hp

/-- A cell of sends at its first round. -/
theorem ss_zero (D s : Bool) : iprop(pers m K ∗ un c D (.send s)) ⊢ ss c D s 0 := by
  unfold un ss ps
  iintro ⟨#HP, H, Hp⟩
  isplitl [H]
  · iapply (atR_zero m K c D (.send s))
    isplitr; · iexact HP
    iexact H
  iexact Hp

omit [FloatOps F] in
/-- What a direction has before the first pass. -/
theorem turnIn_zero (D : Bool) : (turnIn (F := F) c D 0) = iprop(core c D 0 0 0 0 0 0 0 0 0
    ∗ ss c D false 0 ∗ rch (src D c) D .credW 0 ∗ fx c (bS D) ∗ fx c (bW D) ∗ srcR c D 0) := by
  unfold turnIn; rfl

/-- A direction as the launch leaves it. -/
theorem turn_start (D : Bool) :
    iprop(pers m K ∗ (un c D (.send false) ∗ un c D (.send true) ∗ un c D (.recv false) ∗ un c D (.recv true)
        ∗ un c D (.cred false) ∗ un c D (.cred true) ∗ un c D .credW)
      ∗ (crs c D (.cred false) 0 ∗ crs c D (.cred true) 0 ∗ crs c D (.recv false) 0 ∗ crs c D (.recv true) 0 ∗ crs c D .credW 0)
      ∗ fx c (bS D) ∗ fx c (bW D)) ⊢ turnIn c D 0 := by
  rw [turnIn_zero]
  unfold core srcR
  iintro ⟨#HP, ⟨U0, U1, U2, U3, U4, U5, U6⟩, ⟨C4, C5, C2, C3, C6⟩, HS, HW⟩
  ihave U2 := (ws_zero m K c D (.recv false)) $$ [U2 C2]
  · isplitr; · iexact HP
    isplitl [U2] <;> iassumption
  ihave U3 := (ws_zero m K c D (.recv true)) $$ [U3 C3]
  · isplitr; · iexact HP
    isplitl [U3] <;> iassumption
  ihave U4 := (ws_zero m K c D (.cred false)) $$ [U4 C4]
  · isplitr; · iexact HP
    isplitl [U4] <;> iassumption
  ihave U5 := (ws_zero m K c D (.cred true)) $$ [U5 C5]
  · isplitr; · iexact HP
    isplitl [U5] <;> iassumption
  ihave U6 := (ws_zero m K c D .credW) $$ [U6 C6]
  · isplitr; · iexact HP
    isplitl [U6] <;> iassumption
  icases U4 with ⟨W4, P4⟩
  icases U5 with ⟨W5, P5⟩
  isplitl [W4 P4 W5 P5 U2 U3 U6 U1]
  · isplitl [W4 W5]
    · isplitl [W4] <;> iassumption
    isplitl [U2]; · iexact U2
    isplitl [U3]; · iexact U3
    isplitl [P4 P5]
    · isplitl [P4] <;> iassumption
    isplitl [U6]; · iexact U6
    iapply (ss_zero m K c D true)
    isplitr; · iexact HP
    iexact U1
  isplitl [U0]
  · iapply (ss_zero m K c D false)
    isplitr; · iexact HP
    iexact U0
  isplitr; · iapply (pers_rch m K (src D c) D .credW); iexact HP
  isplitl [HS]; · iexact HS
  isplitl [HW]; · iexact HW
  isplitr; · iapply (pers_rch m K (src D c) D (.cred false)); iexact HP
  iapply (pers_rch m K (src D c) D (.cred true)); iexact HP

/-- A cell at its last round closes. -/
theorem close_at (D : Bool) (k : Kn) : iprop(pers m K ∗ atR c D k (rounds k)) ⊢ |={Set.univ}=> semVal (cl c D k) 0 := by
  unfold atR
  iintro ⟨#HP, H, -⟩
  iapply (Rounds.cell_close (EB (F := F)) (rd m) (Set.mem_univ (K (c, kix D k))) (fun h => h) (R := rounds k)
    (fun r h => duties_end m c D k r h))
  isplitr; · iapply (pers_cell m K c D k); iexact HP
  iexact H

omit [FloatOps F] in
/-- What a direction has after the last pass. -/
theorem t10_last (D : Bool) : (t10 (F := F) c D 1) = iprop((core c D 10 10 10 8 8 10 2 2 6
    ∗ fx c (bS D) ∗ rch (src D c) D .credW 2) ∗ ss c D false 12 ∗ fx c (bW D) ∗ srcR c D 10) := by
  unfold t10; rfl

/-- A direction after both passes: its cells close. -/
theorem turn_close (D : Bool) : iprop(pers m K ∗ t10 c D 1) ⊢ |={Set.univ}=>
    iprop((semVal (cl c D (.send false)) 0 ∗ semVal (cl c D (.send true)) 0 ∗ semVal (cl c D (.recv false)) 0 ∗ semVal (cl c D (.recv true)) 0
      ∗ semVal (cl c D (.cred false)) 0 ∗ semVal (cl c D (.cred true)) 0 ∗ semVal (cl c D .credW) 0) ∗ fx c (bS D) ∗ fx c (bW D)) := by
  rw [t10_last]
  unfold core ws ss
  iintro ⟨#HP, ⟨⟨⟨⟨A4, -⟩, ⟨A5, -⟩⟩, ⟨⟨A2, -⟩, -⟩, ⟨⟨A3, -⟩, -⟩, -, ⟨⟨A6, -⟩, -⟩, ⟨A1, -⟩⟩, HS, -⟩, ⟨A0, -⟩, HW, -⟩
  imod (close_at m K c D (.send false)) $$ [A0] with A0
  · isplitr; · iexact HP
    iexact A0
  imod (close_at m K c D (.send true)) $$ [A1] with A1
  · isplitr; · iexact HP
    iexact A1
  imod (close_at m K c D (.recv false)) $$ [A2] with A2
  · isplitr; · iexact HP
    iexact A2
  imod (close_at m K c D (.recv true)) $$ [A3] with A3
  · isplitr; · iexact HP
    iexact A3
  imod (close_at m K c D (.cred false)) $$ [A4] with A4
  · isplitr; · iexact HP
    iexact A4
  imod (close_at m K c D (.cred true)) $$ [A5] with A5
  · isplitr; · iexact HP
    iexact A5
  imod (close_at m K c D .credW) $$ [A6] with A6
  · isplitr; · iexact HP
    iexact A6
  imodintro
  isplitr [HS HW]
  · isplitl [A0]; · iexact A0
    isplitl [A1]; · iexact A1
    isplitl [A2]; · iexact A2
    isplitl [A3]; · iexact A3
    isplitl [A4]; · iexact A4
    isplitl [A5]; · iexact A5
    iexact A6
  isplitl [HS] <;> iassumption

/-- The barrier's cell closes. -/
theorem bar_close : iprop(pers m K ∗ atPos (EB (F := F)) (clB c) 1 ∅ 0) ⊢ |={Set.univ}=> semVal (clB c) 0 := by
  iintro ⟨#HP, H⟩
  iapply (Rounds.cell_close (EB (F := F)) (rd m) (Set.mem_univ (K (c, 14))) (fun h => h) (R := 1)
    (fun r h => duties_bar_end m c r h))
  isplitr; · iapply (pers_bar m K c); iexact HP
  iexact H

/-! ## The whole program -/

/-- The arrays as launched. -/
def arrs : sProp 𝕄 :=
  iprop((aX.view.loc (c.tc : Thread nD τ) ↦[Finset.univ]{fullShare} m (aX.view.loc (c.tc : Thread nD τ)))
    ∗ (aW.view.loc (c.tc : Thread nD τ) ↦[Finset.univ]{fullShare} m (aW.view.loc (c.tc : Thread nD τ)))
    ∗ (aO.view.loc (c.tc : Thread nD τ) ↦[Finset.univ]{fullShare} m (aO.view.loc (c.tc : Thread nD τ))))
/-- The arrays at the end: the result holds what it should. -/
def arrsOut : sProp 𝕄 :=
  iprop((aX.view.loc (c.tc : Thread nD τ) ↦[Finset.univ]{fullShare} m (aX.view.loc (c.tc : Thread nD τ)))
    ∗ (aW.view.loc (c.tc : Thread nD τ) ↦[Finset.univ]{fullShare} m (aW.view.loc (c.tc : Thread nD τ)))
    ∗ (aO.view.loc (c.tc : Thread nD τ) ↦[Finset.univ]{fullShare} res m))

/-- What a device starts with but its buffers. -/
def begin : sProp 𝕄 :=
  iprop((∃ K, pers m K ∗ lin c ∗ inner c) ∗ (cred (tallyAt (clB c) 0 2) ∗ crsL c paid) ∗ arrs m c)
/-- Its buffers. -/
abbrev bufs : sProp 𝕄 := Pipeline.scopedRest (Ix := ℕ) (Name := ℕ) (U := UU) (Lvl := ℕ) (Val := Elt F) cfg0.spec c

omit [FloatOps F] in
/-- The buffers, one by one. -/
theorem bufs_eq : (bufs (F := F) c) = iprop(fx c (bS false) ∗ fx c (bR false) ∗ fx c (bW false) ∗ fx c (bS true) ∗ fx c (bR true) ∗ fx c (bW true)
    ∗ (∃ f : Buf (Elt F) (bX.view.loc (c.tc : Thread nD τ)), bX.view.loc (c.tc : Thread nD τ) ↦[Finset.univ]{fullShare} f)
    ∗ (∃ f : Buf (Elt F) (bY.view.loc (c.tc : Thread nD τ)), bY.view.loc (c.tc : Thread nD τ) ↦[Finset.univ]{fullShare} f)
    ∗ (∃ f : Buf (Elt F) (bT.view.loc (c.tc : Thread nD τ)), bT.view.loc (c.tc : Thread nD τ) ↦[Finset.univ]{fullShare} f)) := by
  unfold bufs
  rw [scopedRest0_eq]
  unfold fx
  rw [show (bS false).view.set = Finset.univ from View.set_whole _, show (bR false).view.set = Finset.univ from View.set_whole _,
    show (bW false).view.set = Finset.univ from View.set_whole _, show (bS true).view.set = Finset.univ from View.set_whole _,
    show (bR true).view.set = Finset.univ from View.set_whole _, show (bW true).view.set = Finset.univ from View.set_whole _]
  rfl

omit [FloatOps F] in
/-- The positions and duties of a device, by cell. -/
theorem lin_open : (lin (F := F) c) ⊢ iprop(
    ((un c false (.send false) ∗ un c false (.send true) ∗ un c false (.recv false) ∗ un c false (.recv true)
        ∗ un c false (.cred false) ∗ un c false (.cred true) ∗ un c false .credW)
      ∗ (un c true (.send false) ∗ un c true (.send true) ∗ un c true (.recv false) ∗ un c true (.recv true)
        ∗ un c true (.cred false) ∗ un c true (.cred true) ∗ un c true .credW))
    ∗ atPos (EB (F := F)) (clB c) 0 ∅ 0 ∗ dutyTok (EB (F := F)) (clB (lft c)) 0 false ∗ dutyTok (EB (F := F)) (clB (rgt c)) 0 true) := by
  unfold lin un ps
  rw [big14, big14]
  iintro ⟨⟨A0, A1, A2, A3, A4, A5, A6, A7, A8, A9, A10, A11, A12, A13⟩, HB, ⟨B0, B1, B2, B3, B4, B5, B6, B7, B8, B9, B10, B11, B12, B13⟩, T0, T1⟩
  isplitr [HB T0 T1]
  · isplitl [A0 A1 A2 A3 A4 A5 A6 B0 B1 B2 B3 B4 B5 B6]
    · isplitl [A0 B0]; · (isplitl [A0] <;> iassumption)
      isplitl [A1 B1]; · (isplitl [A1] <;> iassumption)
      isplitl [A2 B2]; · (isplitl [A2] <;> iassumption)
      isplitl [A3 B3]; · (isplitl [A3] <;> iassumption)
      isplitl [A4 B4]; · (isplitl [A4] <;> iassumption)
      isplitl [A5 B5]; · (isplitl [A5] <;> iassumption)
      isplitl [A6] <;> iassumption
    · isplitl [A7 B7]; · (isplitl [A7] <;> iassumption)
      isplitl [A8 B8]; · (isplitl [A8] <;> iassumption)
      isplitl [A9 B9]; · (isplitl [A9] <;> iassumption)
      isplitl [A10 B10]; · (isplitl [A10] <;> iassumption)
      isplitl [A11 B11]; · (isplitl [A11] <;> iassumption)
      isplitl [A12 B12]; · (isplitl [A12] <;> iassumption)
      isplitl [A13] <;> iassumption
  isplitl [HB]; · iexact HB
  isplitl [T0] <;> iassumption

omit [FloatOps F] in
/-- The credit of the cells that others pay, cell by cell. -/
theorem crs_paid : (crsL (F := F) c paid) = iprop(crs c false (.cred false) 0 ∗ crs c false (.cred true) 0 ∗ crs c false (.recv false) 0
    ∗ crs c false (.recv true) 0 ∗ crs c false .credW 0 ∗ crs c true (.cred false) 0 ∗ crs c true (.cred true) 0 ∗ crs c true (.recv false) 0
    ∗ crs c true (.recv true) 0 ∗ crs c true .credW 0 ∗ emp) := rfl

/-- The program starts. -/
theorem body_start : iprop(ow c 0 ∗ begin m c ∗ bufs c) ⊢ iprop(∃ K, pers m K ∗ bodyIn m c) := by
  rw [bufs_eq]
  unfold begin arrs
  iintro ⟨HO, ⟨⟨%K, #HP, HL, HI⟩, ⟨HB, HC⟩, HaX, HaW, HaO⟩, S0, R0, W0, S1, R1, W1, BX, BY, BT⟩
  iexists K
  isplitr; · iexact HP
  ihave HL := (lin_open (F := F) c) $$ HL
  icases HL with ⟨⟨L0, L1⟩, HA, T0, T1⟩
  unfold inner
  ihave HC := (Entails.of_eq (crs_paid (F := F) c)) $$ HC
  icases HI with ⟨IX, IY, IO⟩
  icases HC with ⟨C0, C1, C2, C3, C4, C5, C6, C7, C8, C9, -⟩
  unfold bodyIn barIn ops rX rY rT out
  isplitl [HO]; · iexact HO
  isplitl [HB HA T0 T1]
  · isplitl [T0]; · iexact T0
    isplitl [T1]; · iexact T1
    isplitl [HA] <;> iassumption
  isplitl [L0 S0 R0 W0 C0 C1 C2 C3 C4]
  · isplitr [R0]
    · iapply (turn_start m K c false)
      isplitr; · iexact HP
      isplitl [L0]; · iexact L0
      isplitl [C0 C1 C2 C3 C4]
      · isplitl [C0]; · iexact C0
        isplitl [C1]; · iexact C1
        isplitl [C2]; · iexact C2
        isplitl [C3] <;> iassumption
      isplitl [S0] <;> iassumption
    iexact R0
  isplitl [L1 S1 R1 W1 C5 C6 C7 C8 C9]
  · isplitr [R1]
    · iapply (turn_start m K c true)
      isplitr; · iexact HP
      isplitl [L1]; · iexact L1
      isplitl [C5 C6 C7 C8 C9]
      · isplitl [C5]; · iexact C5
        isplitl [C6]; · iexact C6
        isplitl [C7]; · iexact C7
        isplitl [C8] <;> iassumption
      isplitl [S1] <;> iassumption
    iexact R1
  isplitl [HaX BX IX HaW BY IY]
  · isplitl [HaX BX IX]
    · isplitl [HaX]; · iexact HaX
      isplitl [BX] <;> iassumption
    · isplitl [HaW]; · iexact HaW
      isplitl [BY] <;> iassumption
  isplitl [BT IO]
  · isplitl [BT] <;> iassumption
  iexists (m (aO.view.loc (c.tc : Thread nD τ)))
  isplitr; · ipureintro; exact fun _ h => h.elim
  iexact HaO

/-- What a device ends with: every counter at zero, its buffers, and the arrays. -/
def finish : sProp 𝕄 :=
  iprop((unscopedSems0 c ∗ arrsOut m c)
    ∗ Pipeline.ownSems0 (Ix := ℕ) (Name := ℕ) (U := UU) (Lvl := ℕ) (Val := Elt F) (τ := τ) osem c ∗ bufs c)

/-- The program ends. -/
theorem body_finish : iprop(pers m K ∗ bodyOut m c) ⊢ |={Set.univ}=> iprop(ow c 82 ∗ finish m c) := by
  unfold finish arrsOut
  rw [bufs_eq, ownSems0_eq, unscopedSems0_eq]
  unfold bodyOut ops rX rY rT
  iintro ⟨#HP, HO, HA, ⟨H0, R0⟩, ⟨H1, R1⟩, ⟨⟨HaX, BX, IX⟩, HaW, BY, IY⟩, ⟨BT, IO⟩, HaO⟩
  imod (turn_close m K c false) $$ [H0] with ⟨⟨A0, A1, A2, A3, A4, A5, A6⟩, S0, W0⟩
  · isplitr; · iexact HP
    iexact H0
  imod (turn_close m K c true) $$ [H1] with ⟨⟨A7, A8, A9, A10, A11, A12, A13⟩, S1, W1⟩
  · isplitr; · iexact HP
    iexact H1
  imod (bar_close m K c) $$ [HA] with HA
  · isplitr; · iexact HP
    iexact HA
  imodintro
  isplitl [HO]; · iexact HO
  isplitl [HA HaX HaW HaO]
  · isplitl [HA]; · iexact HA
    isplitl [HaX]; · iexact HaX
    isplitl [HaW] <;> iassumption
  isplitr [S0 R0 W0 S1 R1 W1 BX BY BT]
  · isplitl [A0]; · iexact A0
    isplitl [A1]; · iexact A1
    isplitl [A2]; · iexact A2
    isplitl [A3]; · iexact A3
    isplitl [A7]; · iexact A7
    isplitl [A8]; · iexact A8
    isplitl [A9]; · iexact A9
    isplitl [A10]; · iexact A10
    isplitl [IX]; · iexact IX
    isplitl [IY]; · iexact IY
    isplitl [IO]; · iexact IO
    isplitl [A4]; · iexact A4
    isplitl [A5]; · iexact A5
    isplitl [A6]; · iexact A6
    isplitl [A11]; · iexact A11
    isplitl [A12] <;> iassumption
  isplitl [S0]; · iexact S0
  isplitl [R0]; · iexact R0
  isplitl [W0]; · iexact W0
  isplitl [S1]; · iexact S1
  isplitl [R1]; · iexact R1
  isplitl [W1]; · iexact W1
  isplitl [BX]; · iexact BX
  isplitl [BY] <;> iassumption

end Start

end Cert.Proof.Ring
-- ==== Proof.BodyEq.lean ====
module

public import proofs.«01_k».proof.Proof.Program

/-! # The printed body is the chain of phases -/

@[expose] public section

noncomputable section

namespace Cert.Proof.Ring

open Idealize.ShloMosaic Idealize.ShloMosaic.TcCoe Idealize.SL.Sem Cert.KernelIdeal Cert.KernelIdeal.Gen

variable {F : FTy → Type} [FloatOps F]

set_option maxRecDepth 100000 in
/-- The body the program prints, at its buffers, reads its device and runs the chain of phases there. -/
theorem body_eq : cc0_body (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25
    = .op .deviceId fun c => body c := by
  chain_rfl

end Cert.Proof.Ring
-- ==== Proof.Launch.lean ====
module

public import proofs.«01_k».proof.Proof.Start
public import proofs.«01_k».proof.Proof.BodyEq
public import Idealize.ShloMosaic.Lib.Pipeline.CollectiveSegs

/-! # The run

At the mesh of four devices, from any memory with zero counters: every weakly fair execution ends, with each device's result as
the run's contents say, its operands unchanged and every counter at zero. -/

@[expose] public section

noncomputable section

namespace Cert.Proof.Ring

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation cellOf)

variable {F : FTy → Type} [FloatOps F]

local notation "𝕄" => MT nD τ sig ℕ (Elt F) ℕ UU ℕ

section Launch
variable (m : (ℓ : Loc nD τ sig) → Buf (Elt F) ℓ) (ρ : Dev nD → PrngReg)

/-- A device's proof data: there are no windows, and one point. -/
def dats (_ : Fin 1) (c : Dev nD) : Dat τ (Elt F) ℕ ℕ UU ℕ cfg0 c where
  A w := w.elim0
  after w _ := w.elim0
  Φ t := match t with
    | ⟨0, _⟩ => iprop(begin m c ∗ bufs c)
    | ⟨_ + 1, _⟩ => finish m c
  q _ := fullShare
  owed t := match t with
    | ⟨0, _⟩ => oweFrom c 0
    | ⟨_ + 1, _⟩ => 0

/-- The body runs from what a device starts with to what it ends with, and makes all its payments. -/
theorem sound_point (c : Dev nD) :
    iprop(begin m c ∗ bufs c ∗ ow c 0) ⊢ wp frame (wpE (defs₀ (F := F)) 𝒱₀ (c.tc : Thread nD τ) none) Set.univ
      (.op .deviceId fun c => body (F := F) c) (fun _ => iprop(finish m c ∗ ow c 82)) := by
  rw [wp_deviceId]
  iintro ⟨HB, Hb, HO⟩
  ihave H := (body_start m c) $$ [HB Hb HO]
  · isplitl [HO]; · iexact HO
    isplitl [HB] <;> iassumption
  icases H with ⟨%K, #HP, H⟩
  iapply (wp_fupd _ _ _ _ _)
  iapply (wp_wand_r _ _ _)
  isplitl [H]
  · iapply (sound_body m K c)
    isplitr; · iexact HP
    iexact H
  iintro %a H
  imod (body_finish m K c) $$ [H] with ⟨HO, HF⟩
  · isplitr; · iexact HP
    iexact H
  imodintro
  isplitl [HF] <;> iassumption

/-- The launch's obligation about the body, on every device. -/
def point : Prop := ∀ c : Dev nD, iprop((dats m 0 c).Φ 0 ∗ (dats m 0 c).owesAt 0 t0_0.castSucc) ⊢ wp frame (wpE (defs₀ (F := F)) 𝒱₀ (c.tc : Thread nD τ) none) Set.univ
      (.op .deviceId fun c => body (F := F) c) (fun _ => iprop((dats m 0 c).Φ (Fin.last cfg0.N) ∗ (dats m 0 c).owesAt 0 t0_0.succ))

/-- So the launch's obligation about the body holds, -/
theorem point_holds : point m := fun c => by
  rw [show (dats m 0 c).Φ 0 = iprop(begin m c ∗ bufs c) from rfl, show (dats m 0 c).Φ (Fin.last cfg0.N) = finish m c from rfl]
  unfold Dat.owesAt Pipeline.owesWithin
  rw [show (dats m 0 c).owed t0_0.castSucc = oweFrom c 0 from rfl, show (dats m 0 c).owed t0_0.succ = 0 from rfl]
  iintro ⟨⟨HB, Hb⟩, %W, -, HO⟩
  iapply (wp_wand_r _ _ _)
  isplitl
  · iapply (sound_point m c)
    isplitl [HB]; · iexact HB
    isplitl [Hb]; · iexact Hb
    unfold ow
    iexists W; iexact HO
  iintro %a ⟨HF, HO⟩
  isplitl [HF]; · iexact HF
  unfold ow
  icases HO with ⟨%W', HO⟩
  rw [oweFrom_end]
  iexists W'
  isplitr; · ipureintro; exact fun _ _ => Or.inl trivial
  iexact HO

omit [FloatOps F] in
/-- The kernel has no windows. -/
theorem no_windows (Φ : Fin cfg0.W → sProp 𝕄) : bigSep Finset.univ Φ = iprop(emp) := BI.bigSep_empty

/-- The body meets the launch's obligation. -/
theorem body_obligation (c : Dev nD) : BodyObligation (dats (F := F) m 0 c) (defs₀ (F := F)) 𝒱₀ 0 Set.univ := fun t => by
  rw [fin_N0 t, no_windows, no_windows]
  rw [show defs₀ (F := F) Proc.tc cfg0.body (cfg0.bodyArgs t0_0 (cfg0.slots t0_0)) = .op .deviceId fun c => body c from body_eq]
  rw [show (dats m 0 c).Φ t0_0.castSucc = (dats m 0 c).Φ 0 from rfl, show (dats m 0 c).Φ t0_0.succ = (dats m 0 c).Φ (Fin.last cfg0.N) from rfl]
  iintro ⟨H1, H2, -⟩
  iapply (wp_wand_r _ _ _)
  isplitl
  · iapply (point_holds m c)
    isplitl [H1]; · iexact H1
    iexact H2
  iintro %a ⟨H1, H2⟩
  isplitl [H1]; · iexact H1
  isplitl [H2]; · iexact H2
  iempintro

/-- The ring's initial state, in its place in the machine's algebra, gives what the devices are allotted. -/
theorem own_ring : BI.own ((embR : Emb (UB × Counters) 𝕄) (initOf cells toks, 1)) ⊢ (|==> bigSep Finset.univ (G m) : sProp 𝕄) := fund_ring m

/-- The reading of a device's memory at the end. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v1) = res m

/-- What the launch hands to a device is what its body starts with. -/
theorem start_intro (c : Dev nD) :
    iprop(Pipeline.unscopedRestP Pipeline.Prefetch.none cfg0.spec c (fun b => m ((c : Thread nD τ).loc b)) ∗ levAts L lv
        ∗ Pipeline.launchCred (fun d => oweFrom d 0) c ∗ prngReg c (ρ c) ∗ G' m c)
      ⊢ |={Set.univ}=> iprop(begin m c ∗ emp) := by
  rw [Pipeline.unscopedRestP_none, unscopedRest0_eq]
  iintro ⟨⟨HX, HW, HO⟩, #Hlev, Hcr, -, HG⟩
  ihave Hc := (creds (F := F) c) $$ Hcr
  imodintro
  unfold begin G' arrs
  icases HG with ⟨%K, #H1, #H2, HL, HI⟩
  isplitl
  · isplitl [HL HI]
    · iexists K
      isplitr
      · unfold pers
        isplitr; · iexact H1
        isplitr; · iexact H2
        iexact Hlev
      isplitl [HL] <;> iassumption
    isplitl [Hc]; · iexact Hc
    isplitl [HX]; · iexact HX
    isplitl [HW]; · iexact HW
    iexact HO
  · iempintro

/-- What a device ends with says what its arrays hold and that its semaphores are zero. -/
theorem read_end (c : Dev nD) (s' : Phys nD τ sig (Elt F)) :
    iprop((unscopedSems0 c ∗ arrsOut m c) ∗ emp ∗ SI s') ⊢ |={Set.univ}=>
      iprop(⌜Ends m c s'.mem ∧ ∀ sm : SemLoc sig, sm.isScoped .tc = false → s'.mem.sem ((c.tc : Thread nD τ), sm) = 0⌝ ∗ SI s' : sProp 𝕄) := by
  unfold arrsOut
  iintro ⟨⟨Hu, HX, HW, HO⟩, -, HSI⟩
  icombine HSI HX gives %hx
  icombine HSI HW gives %hw
  icombine HSI HO gives %ho
  imod (Pipeline.unscopedSems0_read (X := unscopedSems0 c) (c := c) fupd_intro s') $$ [Hu HSI] with ⟨%h, HSI⟩
  · isplitl [Hu] <;> iassumption
  imodintro
  isplitr
  · ipureintro
    exact ⟨⟨Buf.eq_of_forall_mem_univ hx, Buf.eq_of_forall_mem_univ hw, Buf.eq_of_forall_mem_univ ho⟩, h⟩
  iexact HSI

set_option maxRecDepth 8000 in
/-- At the mesh of four devices, for any float values, from any memory with zero counters: every weakly fair execution ends, and
    at every final state each device's result holds the run's contents, its operands are unchanged and every counter is zero. -/
theorem run_main : θ_run defs (onTc (τ := τ) (main (F := F))) ⟨m, fun _ => 0, ρ⟩ (fun r => (∀ c, Ends m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := arr_whole0) (hstage := stage_whole0) (hshare := fun _ w => w.elim0)
    (hdistinct := winFacts0.arr_inj)
    (O₀ := fun c => oweFrom c 0) (howed₀ := fun _ => rfl) (howedN := fun _ => rfl)
    (L := L) (lv := lv) (hL := L_of_ne) (hwaits := fun c => Pipeline.cellsWaits_intro cfgs (dats m) 0 0 c fun w => w.elim0)
    (G := G m) (G' := G' m) (u₀ := u₀)
    (hu₀ := by
      unfold u₀
      iintro Hu
      ihave H := (ownU_pair _ _) $$ Hu
      icases H with ⟨HP, HX⟩
      imod (own_ring m) $$ HX with HG
      imodintro
      isplitl [HP] <;> iassumption)
    (hglob := glob m)
    (hA := fun _ w => w.elim0) (hpf := fun _ k => k.elim0)
    (X := begin m) (Y := fun c => iprop(unscopedSems0 c ∗ arrsOut m c)) (Z := fun _ => iprop(emp))
    (hX := start_intro m ρ)
    (hin := fun c => by
      rw [show (dats m 0 c).Φ 0 = iprop(begin m c ∗ bufs c) from rfl]
      iintro ⟨HB, -, Hb⟩
      isplitl [HB] <;> iassumption)
    (hout := fun c => by
      rw [show (dats m 0 c).Φ (Fin.last cfg0.N) = finish m c from rfl]
      unfold finish
      iintro H; iexact H)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Launch

end Cert.Proof.Ring
-- ==== Proof.Frames.lean ====
module

public import proofs.«01_k».proof.Defs
public import proofs.«01_k».proof.Proof.Launch
public import proofs.«01_k».proof.Proof.Gen.Kernel
public import proofs.«01_k».proof.Proof.Gen.ReferenceIdeal.Run

/-! # The frames

Each program runs to its end with its arguments unchanged and every counter at zero. -/

@[expose] public section

noncomputable section

namespace Cert.Proof.Ring

open Idealize.ShloMosaic Idealize.ShloMosaic.TcCoe Idealize.SL.Sem

/-- The idealized kernel's frame. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (run_main (F := Ideal) m ρ)

/-- The kernel's frame: its text is the idealized kernel's. -/
theorem frame_kernel : Cert.quiescent_Kernel (hKernel := Cert.Kernel.Gen.facts) := fun m ρ _ =>
  (θ_run Cert.KernelIdeal.defs _ _).mono (fun _ h => ⟨fun c => ⟨(h.1 c).1, (h.1 c).2.1⟩, h.2⟩) (run_main (F := Bits) m ρ)

/-- The reference's frame: no operation writes an argument, and it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Ring
-- ==== Proof.Entries.lean ====
module

public import proofs.«01_k».proof.Proof.Contents
public import Idealize.ShloMosaic.PureOps.Ideal
public import Idealize.ShloMosaic.Lib.ValueIdx
public import Idealize.ShloMosaic.Lib.IdealHost
public import Idealize.ShloMosaic.Lib.MatmulPlain
public import Idealize.ShloMosaic.Lib.Pipeline.Value

/-! # The entries of the buffers, over the extended reals

What the kernel's three computations are at an entry, and what an entry of each buffer is: a partial sum, over
devices, of the entries of the devices' own products. -/

@[expose] public section

noncomputable section

namespace Cert.Proof.Ring

open Idealize.ShloMosaic Idealize.ShloMosaic.TcCoe Idealize.SL.Sem Cert.KernelIdeal Cert.KernelIdeal.Gen
open Idealize.ShloMosaic.ValueIdx
open scoped BigOperators

/-! ## One operation -/

/-- The activation of a number: it times the reciprocal of one plus the exponential of its negative. -/
def silu (y : EReal) : EReal := y * Ideal.div 1 (1 + Ideal.exp (0 - y))

/-- The product of two square blocks at an entry is the sum over the columns of the one, the rows of the other. -/
theorem mmP_apply (x w : HCts Ideal) (j : S1024x1024.Idx) :
    mmP (F := Ideal) x w j = ∑ k : Fin 1024, x (ix2 (j 0) k) * w (ix2 k (j 1)) := by
  unfold mmP k0_pay1
  rw [shapeCast_self]
  have h := Ideal.matmul_plain_apply (φ₁ := .bf16) (φ₂ := .bf16) none x w (constant (F := Ideal) S1024x1024 .f32 0x00000000#32) (j 0) (j 1)
  refine (congrArg (truncf (F := Ideal) .bf16 (matmul dot_S1024x1024_S1024x1024_S1024x1024_1_0_0_1_n_n none x w _) bitsLt_bf16_f32) (eq_ix2 j)).trans (Eq.trans h ?_)
  rw [constant_apply, Ideal.ofBits_zero_f32, zero_add]

/-- The sum of two blocks at an entry. -/
theorem addP_apply (r w : HCts Ideal) (j : S1024x1024.Idx) : addP (F := Ideal) r w j = r j + w j := by
  unfold addP k0_pay9
  rw [shapeCast_self]
  rfl

/-- The activation of a tile at an entry. -/
theorem actP_apply (v : Vec Ideal S256x2048 .bf16) (j : S256x2048.Idx) : actP (F := Ideal) v j = silu (v j) := by
  unfold actP k0_pay34
  rw [shapeCast_self]
  show v j * Ideal.div (Ideal.ofBits .f32 0x3F800000#32) (Ideal.ofBits .f32 0x3F800000#32 + Ideal.exp (Ideal.ofBits .f32 0x00000000#32 - v j)) = _
  rw [Ideal.ofBits_one_f32, Ideal.ofBits_zero_f32]
  rfl

/-! ## Whole buffers -/

/-- The sum of two buffers at an entry. -/
theorem addB_apply (X Y : Cts Ideal) (i : S1024x2048.Idx) : addB X Y i = X i + Y i := by
  show addP (F := Ideal) (hOf X (hSide i)) (hOf Y (hSide i)) (hIx i) = _
  rw [addP_apply]
  show X ((hRect (hSide i)).idx (hIx i)) + Y ((hRect (hSide i)).idx (hIx i)) = _
  rw [idx_hIx]

/-- The index of a buffer is its tile's, placed. -/
theorem idx_tIx (i : S1024x2048.Idx) : (tRect (tSide i)).idx (tIx i) = i := by
  funext a
  match a with
  | ⟨0, _⟩ =>
    refine Fin.ext ?_
    show tOff (tSide i) 0 + 1 * ((i 0).val % 256) = (i 0).val
    rw [tOff_eq]
    show 256 * ((i 0).val / 256) + 1 * ((i 0).val % 256) = (i 0).val
    omega
  | ⟨1, _⟩ =>
    refine Fin.ext ?_
    show tOff (tSide i) 1 + 1 * (i 1).val = (i 1).val
    rw [tOff_eq]
    show 0 + 1 * (i 1).val = (i 1).val
    omega

/-- The activation of a buffer at an entry. -/
theorem actB_apply (X : Cts Ideal) (i : S1024x2048.Idx) : actB X i = silu (X i) := by
  show actP (F := Ideal) (tOf X (tSide i)) (tIx i) = _
  rw [actP_apply]
  show silu (X ((tRect (tSide i)).idx (tIx i))) = _
  rw [idx_tIx]

section Run
variable (m : (ℓ : Loc nD τ sig) → Buf (Elt Ideal) ℓ)

/-- The left operand's block at a device, and the right operand's. -/
def lhsAt (c : Dev nD) : (⟨2, ![4096, 1024]⟩ : Shape).Idx → EReal := m ((c.tc : Thread nD τ).loc main_arg0)
@[inherit_doc lhsAt] def rhsAt (c : Dev nD) : (⟨2, ![1024, 8192]⟩ : Shape).Idx → EReal := m ((c.tc : Thread nD τ).loc main_arg1)

/-- An entry of the product of the blocks that device `c` holds. -/
def part (c : Dev nD) (r : Fin 4096) (n : Fin 8192) : EReal := ∑ k : Fin 1024, lhsAt m c (ix2 r k) * rhsAt m c (ix2 k n)

/-- The row of the whole result that row `i` of block `b` is. -/
def rowAt (b : Fin 4) (i : Fin 1024) : Fin 4096 := ⟨1024 * b.val + i.val, by omega⟩
/-- The column that column `j` of direction `D`'s buffer at pass `p` is. -/
def colAt (D : Bool) (p : Fin 2) (j : Fin 2048) : Fin 8192 := ⟨colB D p + j.val, by cases D <;> simp only [colB] <;> omega⟩

/-- The rows copied in, at an entry. -/
theorem xB_apply (c : Dev nD) (D : Bool) (k : Fin 4) (a b : Fin 1024) :
    xB m c D k (ix2 a b) = lhsAt m c (ix2 (rowAt (ck D c k) a) b) := by
  show lhsAt m c ((xRect D c k).idx (ix2 a b)) = _
  congr 1
  funext d
  match d with
  | ⟨0, _⟩ =>
    refine Fin.ext ?_
    show xOff D c k 0 + 1 * a.val = 1024 * (ck D c k).val + a.val
    rw [xOff_eq]
    show 1024 * (ck D c k).val + 1 * a.val = _
    omega
  | ⟨1, _⟩ =>
    refine Fin.ext ?_
    show xOff D c k 1 + 1 * b.val = b.val
    rw [xOff_eq]
    show 0 + 1 * b.val = _
    omega

/-- The columns copied in, at an entry. -/
theorem wB_apply (c : Dev nD) (D : Bool) (p : Fin 2) (s : Bool) (a b : Fin 1024) (h : hcol s + b.val < 2048) :
    wB m c D p s (ix2 a b) = rhsAt m c (ix2 a (colAt D p ⟨hcol s + b.val, h⟩)) := by
  show rhsAt m c ((wRect D p s).idx (ix2 a b)) = _
  congr 1
  funext d
  match d with
  | ⟨0, _⟩ => exact Fin.ext (by show 0 + 1 * a.val = a.val; omega)
  | ⟨1, _⟩ => exact Fin.ext (by show (colB D p + hcol s) + 1 * b.val = colB D p + (hcol s + b.val); omega)

/-- The half a column is in, and its place there, give the column back. -/
theorem hcol_side (i : S1024x2048.Idx) : hcol (hSide i) + (hIx i 1).val = (i 1).val := by
  have h := congrArg (fun j : S1024x2048.Idx => (j 1).val) (idx_hIx i)
  have h' : hcol (hSide i) + 1 * (hIx i 1).val = (i 1).val := h
  omega

/-- A device's own part, at an entry. -/
theorem mmB_apply (D : Bool) (p : Fin 2) (c : Dev nD) (k : Fin 4) (i : S1024x2048.Idx) :
    mmB m D p c k i = part m c (rowAt (ck D c k) (i 0)) (colAt D p (i 1)) := by
  show mmP (F := Ideal) (xB m c D k) (wB m c D p (hSide i)) (hIx i) = _
  rw [mmP_apply]
  have hc := hcol_side i
  have hl : (i 1).val < 2048 := (i 1).isLt
  refine Finset.sum_congr rfl fun q _ => ?_
  refine congrArg₂ (· * ·) (xB_apply m c D k (hIx i 0) q) ((wB_apply m c D p (hSide i) q (hIx i 1) (by omega)).trans ?_)
  exact congrArg (fun n : Fin 2048 => rhsAt m c (ix2 q (colAt D p n))) (Fin.ext hc)

/-- What a device has accumulated after three steps: the parts of the four devices along the ring. -/
theorem acc_apply (D : Bool) (p : Fin 2) (c : Dev nD) (i : S1024x2048.Idx) :
    acc m D p 3 c i =
      mmB m D p (src D (src D (src D c))) 0 i + mmB m D p (src D (src D c)) 1 i + mmB m D p (src D c) 2 i + mmB m D p c 3 i := by
  show addB (addB (addB (mmB m D p _ 0) (mmB m D p _ 1)) (mmB m D p _ 2)) (mmB m D p _ 3) i = _
  rw [addB_apply, addB_apply, addB_apply]

/-- The devices before the one that completes block `r` have block `r` at their steps. -/
theorem ck_own : ∀ (D : Bool) (r : Fin 4), ck D (own D r) 3 = r ∧ ck D (src D (own D r)) 2 = r
    ∧ ck D (src D (src D (own D r))) 1 = r ∧ ck D (src D (src D (src D (own D r)))) 0 = r := by decide +kernel

/-- Four steps back along the ring meet every device once. -/
theorem ring_sum (f : Dev nD → EReal) (D : Bool) (c : Dev nD) :
    f (src D (src D (src D c))) + f (src D (src D c)) + f (src D c) + f c = ∑ d, f d := by
  have hs : ∀ (D : Bool) (c : Dev nD), ({src D (src D (src D c)), src D (src D c), src D c, c} : Finset (Dev nD)) = Finset.univ
      ∧ src D (src D (src D c)) ∉ ({src D (src D c), src D c, c} : Finset (Dev nD)) ∧ src D (src D c) ∉ ({src D c, c} : Finset (Dev nD))
      ∧ src D c ∉ ({c} : Finset (Dev nD)) := by decide +kernel
  obtain ⟨h, h1, h2, h3⟩ := hs D c
  rw [← h, Finset.sum_insert h1, Finset.sum_insert h2, Finset.sum_insert h3, Finset.sum_singleton, ← add_assoc, ← add_assoc]

/-- The complete sum at an entry: over the devices, their parts there. -/
theorem fin_apply (D : Bool) (p : Fin 2) (r : Fin 4) (i : S1024x2048.Idx) :
    fin m D p r i = ∑ d, part m d (rowAt r (i 0)) (colAt D p (i 1)) := by
  unfold fin
  obtain ⟨h3, h2, h1, h0⟩ := ck_own D r
  rw [acc_apply, mmB_apply, mmB_apply, mmB_apply, mmB_apply, h0, h1, h2, h3]
  exact ring_sum (fun d => part m d (rowAt r (i 0)) (colAt D p (i 1))) D (own D r)

/-- The result at an entry: the activation of the sum over the devices of their parts there. -/
theorem res_apply (r : Fin 4096) (n : Fin 8192) : res m (ix2 r n) = silu (∑ d, part m d r n) := by
  show actB (fin m (dirOf (ix2 r n)) (passOf (ix2 r n)) (rowOf (ix2 r n))) (bIx (ix2 r n)) = _
  rw [actB_apply, fin_apply]
  have hr : rowAt (rowOf (ix2 r n)) (bIx (ix2 r n) 0) = r := Fin.ext (by
    show 1024 * (r.val / 1024) + r.val % 1024 = r.val; omega)
  have hn : colAt (dirOf (ix2 r n)) (passOf (ix2 r n)) (bIx (ix2 r n) 1) = n := Fin.ext (by
    show colB (decide (4096 ≤ n.val)) (p2 (n.val / 2048)) + n.val % 2048 = n.val
    by_cases h : 4096 ≤ n.val
    · rw [decide_eq_true h]; show (4096 + 2048 * (n.val / 2048 % 2)) + n.val % 2048 = n.val; omega
    · rw [decide_eq_false h]; show (0 + 2048 * (n.val / 2048 % 2)) + n.val % 2048 = n.val; omega)
  rw [hr, hn]

end Run

end Cert.Proof.Ring
-- ==== Proof.Whole.lean ====
module

public import proofs.«01_k».proof.Proof.Entries
public import proofs.«01_k».proof.Proof.Gen.ReferenceIdeal.Run
public import proofs.«01_k».proof.Proof.Gen.UnclippedIdeal.Run
public import proofs.«01_k».proof.Proof.Gen.Pre_bounded_KernelIdeal

/-! # The whole product

The references at an entry, the devices' parts as blocks of one long sum, and the range in which the clip does
nothing. -/

@[expose] public section

noncomputable section

namespace Cert.Proof.Ring

open Idealize.ShloMosaic Idealize.ShloMosaic.TcCoe Idealize.SL.Sem
open Idealize.ShloMosaic.ValueIdx
open scoped BigOperators

/-- Contents of the whole left operand, of the whole right one. -/
abbrev Lhs := (⟨2, ![4096, 4096]⟩ : Shape).Idx → EReal
@[inherit_doc Lhs] abbrev Rhs := (⟨2, ![4096, 8192]⟩ : Shape).Idx → EReal

/-- An entry of the product of the whole operands. -/
def dotAt (X : Lhs) (W : Rhs) (r : Fin 4096) (n : Fin 8192) : EReal := ∑ k : Fin 4096, X (ix2 r k) * W (ix2 k n)

/-! ## The activation -/

/-- The exponential is never negative. -/
theorem exp_nonneg (y : EReal) : 0 ≤ Ideal.exp y := by
  induction y with
  | bot => exact le_refl _
  | top => exact le_top
  | coe r => exact EReal.coe_nonneg.2 (Real.exp_pos r).le

/-- The activation as a quotient: dividing by a number is multiplying by its reciprocal, at the infinities too. -/
theorem silu_eq (y : EReal) : silu y = Ideal.div y (1 + Ideal.exp (-y)) := by
  unfold silu
  rw [sub_eq_add_neg, zero_add]
  have h : (1 : EReal) + Ideal.exp (-y) ≠ 0 :=
    ne_of_gt (lt_of_lt_of_le zero_lt_one (le_add_of_nonneg_right (exp_nonneg _)))
  unfold Ideal.div
  rw [if_neg h, if_neg h, one_mul]

/-! ## The references -/

/-- The host's product of two matrices at an entry. -/
theorem hostDot_apply {M K N : ℕ} {φ₁ φ₂ : FTy} (D : DotDims ⟨2, ![M, K]⟩ ⟨2, ![K, N]⟩ ⟨2, ![M, N]⟩) (hD : D = DotDims.plain M K N)
    (X : FVec Ideal ⟨2, ![M, K]⟩ φ₁) (W : FVec Ideal ⟨2, ![K, N]⟩ φ₂) (r : Fin M) (n : Fin N) :
    Host.dotGeneral D none X W (ix2 r n) = ∑ k : Fin K, X (ix2 r k) * W (ix2 k n) := by
  subst hD
  refine (Ideal.matmul_plain_apply none X W (fun _ => 0) r n).trans ?_
  rw [zero_add]

section Refs

/-- The result of the reference without the clip, of its arguments. -/
def refU (X : Lhs) (W : Rhs) : Rhs :=
  open Cert.UnclippedIdeal Cert.UnclippedIdeal.Gen in
  Host.divf (F := Ideal) (extf .f32 (truncf .bf16 (Host.dotGeneral (φ₁ := .bf16) (φ₂ := .bf16) dot_S4096x4096_S4096x8192_S4096x8192_1_0_0_1_n_n none X W) bitsLt_bf16_f32) bitsLt_bf16_f32)
    (addf (broadcastInDim S4096x8192 ![] bcast_S_S4096x8192 (constant S_ .f32 0x3F800000#32)) (Host.exp (Host.negf (extf .f32 (truncf .bf16 (Host.dotGeneral (φ₁ := .bf16) (φ₂ := .bf16) dot_S4096x4096_S4096x8192_S4096x8192_1_0_0_1_n_n none X W) bitsLt_bf16_f32) bitsLt_bf16_f32))))

/-- The reference without the clip at an entry: the activation of the product. -/
theorem refU_apply (X : Lhs) (W : Rhs) (r : Fin 4096) (n : Fin 8192) : refU X W (ix2 r n) = silu (dotAt X W r n) := by
  have h := hostDot_apply (φ₁ := .bf16) (φ₂ := .bf16) Cert.UnclippedIdeal.dot_S4096x4096_S4096x8192_S4096x8192_1_0_0_1_n_n rfl X W r n
  rw [silu_eq, dotAt, ← h, ← Ideal.ofBits_one_f32]
  rfl

/-- The result of the reference, of its arguments. -/
def refC (X : Lhs) (W : Rhs) : Rhs :=
  open Cert.ReferenceIdeal Cert.ReferenceIdeal.Gen in
  Host.divf (F := Ideal) (extf .f32 (truncf .bf16 (Host.dotGeneral (φ₁ := .bf16) (φ₂ := .bf16) dot_S4096x4096_S4096x8192_S4096x8192_1_0_0_1_n_n none X W) bitsLt_bf16_f32) bitsLt_bf16_f32)
    (addf (broadcastInDim S4096x8192 ![] bcast_S_S4096x8192 (constant S_ .f32 0x3F800000#32)) (Host.exp (Host.negf
      (minimumf (broadcastInDim S4096x8192 ![] bcast_S_S4096x8192 (id (constant S_ .f32 0x42700000#32)))
        (maximumf (broadcastInDim S4096x8192 ![] bcast_S_S4096x8192 (id (constant S_ .f32 0xC2700000#32)))
          (extf .f32 (truncf .bf16 (Host.dotGeneral (φ₁ := .bf16) (φ₂ := .bf16) dot_S4096x4096_S4096x8192_S4096x8192_1_0_0_1_n_n none X W) bitsLt_bf16_f32) bitsLt_bf16_f32))))))

/-- The words of the clip's bounds and of the precondition's are these numbers. -/
theorem ofBits_60 : Ideal.ofBits .f32 0x42700000#32 = ((60 : ℝ) : EReal) := by
  simp [Ideal.ofBits, Ideal.ieee, -EReal.coe_mul]; norm_num
@[inherit_doc ofBits_60] theorem ofBits_neg_60 : Ideal.ofBits .f32 0xC2700000#32 = ((-60 : ℝ) : EReal) := by
  simp [Ideal.ofBits, Ideal.ieee, -EReal.coe_mul, -EReal.coe_neg]; norm_num
@[inherit_doc ofBits_60] theorem ofBits_15 : Ideal.ofBits .f32 0x41700000#32 = ((15 : ℝ) : EReal) := by
  simp [Ideal.ofBits, Ideal.ieee, -EReal.coe_mul]; norm_num

/-- The reference at an entry where the product lies between the clip's bounds: the activation of the product. -/
theorem refC_apply (X : Lhs) (W : Rhs) (r : Fin 4096) (n : Fin 8192) (h1 : dotAt X W r n ≤ ((60 : ℝ) : EReal))
    (h2 : ((-60 : ℝ) : EReal) ≤ dotAt X W r n) : refC X W (ix2 r n) = silu (dotAt X W r n) := by
  have h := hostDot_apply (φ₁ := .bf16) (φ₂ := .bf16) Cert.ReferenceIdeal.dot_S4096x4096_S4096x8192_S4096x8192_1_0_0_1_n_n rfl X W r n
  have hc : min ((60 : ℝ) : EReal) (max ((-60 : ℝ) : EReal) (dotAt X W r n)) = dotAt X W r n := by
    rw [max_eq_right h2, min_eq_right h1]
  rw [silu_eq]
  conv_rhs => rw [← hc]
  conv_rhs => arg 1; rw [hc]
  rw [dotAt, ← h, ← Ideal.ofBits_one_f32, ← ofBits_60, ← ofBits_neg_60]
  rfl

end Refs

/-! ## The devices' parts -/

/-- A sum over all the positions is the sum over the blocks of the sums over a block's positions. -/
theorem sum_blocks (f : Fin 4096 → EReal) :
    ∑ c : Fin 4, ∑ k : Fin 1024, f ⟨c.val * 1024 + k.val, by omega⟩ = ∑ k, f k := by
  rw [← Fintype.sum_prod_type' (f := fun (c : Fin 4) (k : Fin 1024) => f ⟨c.val * 1024 + k.val, by omega⟩)]
  refine Fintype.sum_equiv (finProdFinEquiv (m := 4) (n := 1024)) _ _ fun p => ?_
  refine congrArg f (Fin.ext ?_)
  show p.1.val * 1024 + p.2.val = p.2.val + 1024 * p.1.val
  omega

section Parts
open Cert.KernelIdeal
variable (m : (ℓ : Loc nD τ sig) → Buf (Elt Ideal) ℓ) (X : Lhs) (W : Rhs)

/-- Every device holds its block of columns of the left operand, and of rows of the right one. -/
def Agrees : Prop := ∀ c : Dev nD, lhsAt m c = Layout.block ⟨2, ![4096, 1024]⟩ ⟨2, ![4096, 4096]⟩ 1 4 c X
  ∧ rhsAt m c = Layout.block ⟨2, ![1024, 8192]⟩ ⟨2, ![4096, 8192]⟩ 0 4 c W

/-- The parts of the devices add up to the product of the whole operands. -/
theorem parts_whole (h : Agrees m X W) (r : Fin 4096) (n : Fin 8192) : ∑ d, part m d r n = dotAt X W r n := by
  unfold dotAt
  rw [← sum_blocks]
  refine Finset.sum_congr rfl fun c _ => Finset.sum_congr rfl fun k _ => ?_
  rw [(h c).1, (h c).2, Layout.block_apply, Layout.block_apply]
  refine congrArg₂ (· * ·) (congrArg X ?_) (congrArg W ?_)
  · funext a
    match a with
    | ⟨0, _⟩ => rfl
    | ⟨1, _⟩ => rfl
  · funext a
    match a with
    | ⟨0, _⟩ => rfl
    | ⟨1, _⟩ => rfl

/-- What the precondition says of a device: each entry of its part is between -15 and 15. -/
theorem part_bound (c : Dev nD)
    (h : Cert.Pre_bounded_KernelIdeal.fn (F := Ideal) (lhsAt m c) (rhsAt m c) = fun _ => 1#1) (r : Fin 4096) (n : Fin 8192) :
    part m c r n ≤ ((15 : ℝ) : EReal) ∧ ((-15 : ℝ) : EReal) ≤ part m c r n := by
  have hd := hostDot_apply (φ₁ := .bf16) (φ₂ := .bf16) Cert.Pre_bounded_KernelIdeal.dot_S4096x1024_S1024x8192_S4096x8192_1_0_0_1_n_n rfl
    (lhsAt m c) (rhsAt m c) r n
  have hp := congrFun h (ix2 r n)
  have hp' : Ideal.cmp .ole (max (part m c r n) (-(part m c r n))) (Ideal.ofBits .f32 0x41700000#32) = 1#1 := by
    rw [part, ← hd]; exact hp
  rw [ofBits_15] at hp'
  have hle : max (part m c r n) (-(part m c r n)) ≤ ((15 : ℝ) : EReal) := by
    by_contra hn
    simp [Ideal.cmp, hn] at hp'
  refine ⟨(le_max_left _ _).trans hle, ?_⟩
  rw [EReal.coe_neg]
  exact EReal.neg_le.1 ((le_max_right _ _).trans hle)

/-- So the whole product lies between the clip's bounds. -/
theorem sum_bound (h : ∀ c : Dev nD, Cert.Pre_bounded_KernelIdeal.fn (F := Ideal) (lhsAt m c) (rhsAt m c) = fun _ => 1#1)
    (r : Fin 4096) (n : Fin 8192) : ∑ d, part m d r n ≤ ((60 : ℝ) : EReal) ∧ ((-60 : ℝ) : EReal) ≤ ∑ d, part m d r n := by
  have hs (x : ℝ) : ∑ _d : Dev nD, (x : EReal) = ((4 * x : ℝ) : EReal) := by
    rw [show (∑ _d : Dev nD, (x : EReal)) = x + x + x + x from Fin.sum_univ_four (fun _ => (x : EReal)),
      ← EReal.coe_add, ← EReal.coe_add, ← EReal.coe_add]
    congr 1; ring
  constructor
  · refine (Finset.sum_le_sum fun d _ => (part_bound m d (h d) r n).1).trans (le_of_eq ((hs 15).trans ?_)); norm_num
  · refine le_trans (le_of_eq (Eq.symm ((hs (-15)).trans ?_))) (Finset.sum_le_sum fun d _ => (part_bound m d (h d) r n).2); norm_num

/-- The kernel's result at an entry is that of the reference without the clip, -/
theorem res_entryU (h : Agrees m X W) (r : Fin 4096) (n : Fin 8192) : res m (ix2 r n) = refU X W (ix2 r n) := by
  rw [refU_apply, ← parts_whole m X W h]; exact res_apply m r n

/-- and that of the reference where the devices' parts are bounded. -/
theorem res_entryC (h : Agrees m X W)
    (hb : ∀ c : Dev nD, Cert.Pre_bounded_KernelIdeal.fn (F := Ideal) (lhsAt m c) (rhsAt m c) = fun _ => 1#1)
    (r : Fin 4096) (n : Fin 8192) : res m (ix2 r n) = refC X W (ix2 r n) := by
  have hs := sum_bound m hb r n
  have hw := parts_whole m X W h r n
  rw [hw] at hs
  rw [refC_apply X W r n hs.1 hs.2, ← hw]; exact res_apply m r n

/-- The kernel's result is that of the reference without the clip, -/
theorem res_refU (h : Agrees m X W) : res m = refU X W := by
  funext i
  exact (congrArg (res m) (eq_ix2 i)).trans ((res_entryU m X W h (i 0) (i 1)).trans (congrArg (refU X W) (eq_ix2 i)).symm)

/-- and that of the reference where the devices' parts are bounded. -/
theorem res_refC (h : Agrees m X W)
    (hb : ∀ c : Dev nD, Cert.Pre_bounded_KernelIdeal.fn (F := Ideal) (lhsAt m c) (rhsAt m c) = fun _ => 1#1) : res m = refC X W := by
  funext i
  exact (congrArg (res m) (eq_ix2 i)).trans ((res_entryC m X W h hb (i 0) (i 1)).trans (congrArg (refC X W) (eq_ix2 i)).symm)

end Parts

end Cert.Proof.Ring
-- ==== Proof.Values.lean ====
module

public import proofs.«01_k».proof.Proof.Frames
public import proofs.«01_k».proof.Proof.Whole
public import proofs.«01_k».proof.Proof.Gen.Pre_bounded_ReferenceIdeal

/-! # The value claims

The kernel and each reference compute the same array. -/

@[expose] public section

noncomputable section

namespace Cert.Proof.Ring

open Idealize.ShloMosaic Idealize.ShloMosaic.TcCoe Idealize.SL.Sem

/-- The frame of the reference without the clip: no operation writes an argument, and it declares no semaphore. -/
theorem frame_unclipped : Cert.quiescent_UnclippedIdeal (hUnclippedIdeal := Cert.UnclippedIdeal.Gen.facts) := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- The idealized kernel and the reference without the clip compute the same array, from any arguments. -/
theorem value_unclipped : Cert.algebraic_KernelIdeal_UnclippedIdeal (hKernelIdeal := Cert.KernelIdeal.Gen.facts)
    (hUnclippedIdeal := Cert.UnclippedIdeal.Gen.facts) := fun m g m' g' _ h => by
  refine ⟨res m, ?_, ?_⟩
  · exact (θ_run Cert.KernelIdeal.defs _ _).mono (fun _ h c => ⟨(h.1 c).2.2, (h.1 c).1, (h.1 c).2.1⟩) (run_main (F := Ideal) m g)
  · have hr := res_refU m _ _ h
    exact (θ_run Cert.UnclippedIdeal.defs _ _).mono (fun _ hv => ⟨(hv 0).1.trans hr.symm, (hv 0).2.1, (hv 0).2.2⟩)
      (Cert.UnclippedIdeal.Value.run (F := Ideal) m' g')

/-- The idealized kernel and the reference compute the same array, from arguments for which every entry of every
    device's own product is between -15 and 15. -/
theorem value_clipped : Cert.algebraic_KernelIdeal_ReferenceIdeal_pre_bounded_KernelIdeal
    (hKernelIdeal := Cert.KernelIdeal.Gen.facts) (hReferenceIdeal := Cert.ReferenceIdeal.Gen.facts)
    (hPre_bounded_KernelIdeal := Cert.Pre_bounded_KernelIdeal.Gen.facts) := fun m g m' g' hb h => by
  refine ⟨res m, ?_, ?_⟩
  · exact (θ_run Cert.KernelIdeal.defs _ _).mono (fun _ h c => ⟨(h.1 c).2.2, (h.1 c).1, (h.1 c).2.1⟩) (run_main (F := Ideal) m g)
  · have hr := res_refC m _ _ h hb
    exact (θ_run Cert.ReferenceIdeal.defs _ _).mono (fun _ hv => ⟨(hv 0).1.trans hr.symm, (hv 0).2.1, (hv 0).2.2⟩)
      (Cert.ReferenceIdeal.Value.run (F := Ideal) m' g')

end Cert.Proof.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.Pre_bounded_KernelIdeal
public import proofs.«01_k».proof.Proof.Gen.Pre_bounded_ReferenceIdeal
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- Every program runs to its end with its arguments unchanged and its counters at zero, and the ideal kernel computes
    on every device the array that each reference computes. -/
theorem claim : Cert.Claim :=
  ⟨Cert.Kernel.Gen.facts, Cert.KernelIdeal.Gen.facts, Cert.ReferenceIdeal.Gen.facts, Cert.UnclippedIdeal.Gen.facts,
    Cert.Pre_bounded_KernelIdeal.Gen.facts, Cert.Pre_bounded_ReferenceIdeal.Gen.facts,
    Ring.frame_kernel, Ring.frame_ideal, fun m ρ _ => Ring.frame_ideal m ρ trivial, Ring.frame_ref,
    fun m ρ _ => Ring.frame_ref m ρ trivial, Ring.frame_unclipped, trivial, Ring.value_clipped, Ring.value_unclipped⟩

end Cert.Proof

end
